-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S32x128x128 : Shape := ⟨3, ![32, 128, 128]⟩
abbrev S8x128 : Shape := ⟨2, ![8, 128]⟩
abbrev S4x128 : Shape := ⟨2, ![4, 128]⟩
abbrev S32 : Shape := ⟨1, ![32]⟩
abbrev S8 : Shape := ⟨1, ![8]⟩
abbrev S4 : Shape := ⟨1, ![4]⟩
abbrev S_ : Shape := ⟨0, ![]⟩
abbrev S1 : Shape := ⟨1, ![1]⟩
abbrev S1x128x128 : Shape := ⟨3, ![1, 128, 128]⟩
abbrev S128x128 : Shape := ⟨2, ![128, 128]⟩
abbrev S1x128x2048 : Shape := ⟨3, ![1, 128, 2048]⟩
abbrev S1x1x1 : Shape := ⟨3, ![1, 1, 1]⟩
abbrev S1x128 : Shape := ⟨2, ![1, 128]⟩
abbrev S1x8x128 : Shape := ⟨3, ![1, 8, 128]⟩
abbrev S1x4x128 : Shape := ⟨3, ![1, 4, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S4096x2048, .f32⟩
  | .local _ .vmem, ⟨2, _⟩ => ⟨S128x2048, .f32⟩
  | .local _ .vmem, ⟨3, _⟩ => ⟨S32x128x128, .f32⟩
  | .local _ .vmem, ⟨4, _⟩ => ⟨S8x128, .f32⟩
  | .local _ .vmem, ⟨5, _⟩ => ⟨S4x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  (ofTc nBuf bufTy 1 91 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1780 : BitVec 32 := 0#32
  let c0_i32_1778 : BitVec 32 := 0#32
  let c1_i32_1779 : BitVec 32 := 1#32
  let v2791 : BitVec 32 := Scalar.muli c0_i32_1778 c1_i32_1779
  let v2792 : BitVec 32 := Scalar.addi c0_i32_1780 v2791
  v2792.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1780 : BitVec 32 := 0#32
  let c1_i32_1778 : BitVec 32 := 1#32
  let c1_i32_1779 : BitVec 32 := 1#32
  let v2791 : BitVec 32 := Scalar.muli c1_i32_1778 c1_i32_1779
  let v2792 : BitVec 32 := Scalar.addi c0_i32_1780 v2791
  v2792.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1780 : BitVec 32 := 0#32
  let c2_i32_1778 : BitVec 32 := 2#32
  let c1_i32_1779 : BitVec 32 := 1#32
  let v2791 : BitVec 32 := Scalar.muli c2_i32_1778 c1_i32_1779
  let v2792 : BitVec 32 := Scalar.addi c0_i32_1780 v2791
  v2792.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1780 : BitVec 32 := 0#32
  let c3_i32_1778 : BitVec 32 := 3#32
  let c1_i32_1779 : BitVec 32 := 1#32
  let v2791 : BitVec 32 := Scalar.muli c3_i32_1778 c1_i32_1779
  let v2792 : BitVec 32 := Scalar.addi c0_i32_1780 v2791
  v2792.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1780 : BitVec 32 := 0#32
  let c4_i32_1778 : BitVec 32 := 4#32
  let c1_i32_1779 : BitVec 32 := 1#32
  let v2791 : BitVec 32 := Scalar.muli c4_i32_1778 c1_i32_1779
  let v2792 : BitVec 32 := Scalar.addi c0_i32_1780 v2791
  v2792.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1780 : BitVec 32 := 0#32
  let c5_i32_1778 : BitVec 32 := 5#32
  let c1_i32_1779 : BitVec 32 := 1#32
  let v2791 : BitVec 32 := Scalar.muli c5_i32_1778 c1_i32_1779
  let v2792 : BitVec 32 := Scalar.addi c0_i32_1780 v2791
  v2792.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1780 : BitVec 32 := 0#32
  let c6_i32_1778 : BitVec 32 := 6#32
  let c1_i32_1779 : BitVec 32 := 1#32
  let v2791 : BitVec 32 := Scalar.muli c6_i32_1778 c1_i32_1779
  let v2792 : BitVec 32 := Scalar.addi c0_i32_1780 v2791
  v2792.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1780 : BitVec 32 := 0#32
  let c7_i32_1778 : BitVec 32 := 7#32
  let c1_i32_1779 : BitVec 32 := 1#32
  let v2791 : BitVec 32 := Scalar.muli c7_i32_1778 c1_i32_1779
  let v2792 : BitVec 32 := Scalar.addi c0_i32_1780 v2791
  v2792.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_1780 : BitVec 32 := 0#32
  let c8_i32_1778 : BitVec 32 := 8#32
  let c1_i32_1779 : BitVec 32 := 1#32
  let v2791 : BitVec 32 := Scalar.muli c8_i32_1778 c1_i32_1779
  let v2792 : BitVec 32 := Scalar.addi c0_i32_1780 v2791
  v2792.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_1780 : BitVec 32 := 0#32
  let c9_i32_1778 : BitVec 32 := 9#32
  let c1_i32_1779 : BitVec 32 := 1#32
  let v2791 : BitVec 32 := Scalar.muli c9_i32_1778 c1_i32_1779
  let v2792 : BitVec 32 := Scalar.addi c0_i32_1780 v2791
  v2792.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_1780 : BitVec 32 := 0#32
  let c10_i32_1778 : BitVec 32 := 10#32
  let c1_i32_1779 : BitVec 32 := 1#32
  let v2791 : BitVec 32 := Scalar.muli c10_i32_1778 c1_i32_1779
  let v2792 : BitVec 32 := Scalar.addi c0_i32_1780 v2791
  v2792.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_1780 : BitVec 32 := 0#32
  let c11_i32_1778 : BitVec 32 := 11#32
  let c1_i32_1779 : BitVec 32 := 1#32
  let v2791 : BitVec 32 := Scalar.muli c11_i32_1778 c1_i32_1779
  let v2792 : BitVec 32 := Scalar.addi c0_i32_1780 v2791
  v2792.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_1780 : BitVec 32 := 0#32
  let c12_i32_1778 : BitVec 32 := 12#32
  let c1_i32_1779 : BitVec 32 := 1#32
  let v2791 : BitVec 32 := Scalar.muli c12_i32_1778 c1_i32_1779
  let v2792 : BitVec 32 := Scalar.addi c0_i32_1780 v2791
  v2792.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_1780 : BitVec 32 := 0#32
  let c13_i32_1778 : BitVec 32 := 13#32
  let c1_i32_1779 : BitVec 32 := 1#32
  let v2791 : BitVec 32 := Scalar.muli c13_i32_1778 c1_i32_1779
  let v2792 : BitVec 32 := Scalar.addi c0_i32_1780 v2791
  v2792.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_1780 : BitVec 32 := 0#32
  let c14_i32_1778 : BitVec 32 := 14#32
  let c1_i32_1779 : BitVec 32 := 1#32
  let v2791 : BitVec 32 := Scalar.muli c14_i32_1778 c1_i32_1779
  let v2792 : BitVec 32 := Scalar.addi c0_i32_1780 v2791
  v2792.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_1780 : BitVec 32 := 0#32
  let c15_i32_1778 : BitVec 32 := 15#32
  let c1_i32_1779 : BitVec 32 := 1#32
  let v2791 : BitVec 32 := Scalar.muli c15_i32_1778 c1_i32_1779
  let v2792 : BitVec 32 := Scalar.addi c0_i32_1780 v2791
  v2792.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_1780 : BitVec 32 := 0#32
  let c16_i32_1778 : BitVec 32 := 16#32
  let c1_i32_1779 : BitVec 32 := 1#32
  let v2791 : BitVec 32 := Scalar.muli c16_i32_1778 c1_i32_1779
  let v2792 : BitVec 32 := Scalar.addi c0_i32_1780 v2791
  v2792.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_1780 : BitVec 32 := 0#32
  let c17_i32_1778 : BitVec 32 := 17#32
  let c1_i32_1779 : BitVec 32 := 1#32
  let v2791 : BitVec 32 := Scalar.muli c17_i32_1778 c1_i32_1779
  let v2792 : BitVec 32 := Scalar.addi c0_i32_1780 v2791
  v2792.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_1780 : BitVec 32 := 0#32
  let c18_i32_1778 : BitVec 32 := 18#32
  let c1_i32_1779 : BitVec 32 := 1#32
  let v2791 : BitVec 32 := Scalar.muli c18_i32_1778 c1_i32_1779
  let v2792 : BitVec 32 := Scalar.addi c0_i32_1780 v2791
  v2792.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_1780 : BitVec 32 := 0#32
  let c19_i32_1778 : BitVec 32 := 19#32
  let c1_i32_1779 : BitVec 32 := 1#32
  let v2791 : BitVec 32 := Scalar.muli c19_i32_1778 c1_i32_1779
  let v2792 : BitVec 32 := Scalar.addi c0_i32_1780 v2791
  v2792.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_1780 : BitVec 32 := 0#32
  let c20_i32_1778 : BitVec 32 := 20#32
  let c1_i32_1779 : BitVec 32 := 1#32
  let v2791 : BitVec 32 := Scalar.muli c20_i32_1778 c1_i32_1779
  let v2792 : BitVec 32 := Scalar.addi c0_i32_1780 v2791
  v2792.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_1780 : BitVec 32 := 0#32
  let c21_i32_1778 : BitVec 32 := 21#32
  let c1_i32_1779 : BitVec 32 := 1#32
  let v2791 : BitVec 32 := Scalar.muli c21_i32_1778 c1_i32_1779
  let v2792 : BitVec 32 := Scalar.addi c0_i32_1780 v2791
  v2792.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_1780 : BitVec 32 := 0#32
  let c22_i32_1778 : BitVec 32 := 22#32
  let c1_i32_1779 : BitVec 32 := 1#32
  let v2791 : BitVec 32 := Scalar.muli c22_i32_1778 c1_i32_1779
  let v2792 : BitVec 32 := Scalar.addi c0_i32_1780 v2791
  v2792.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_1780 : BitVec 32 := 0#32
  let c23_i32_1778 : BitVec 32 := 23#32
  let c1_i32_1779 : BitVec 32 := 1#32
  let v2791 : BitVec 32 := Scalar.muli c23_i32_1778 c1_i32_1779
  let v2792 : BitVec 32 := Scalar.addi c0_i32_1780 v2791
  v2792.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_1780 : BitVec 32 := 0#32
  let c24_i32_1778 : BitVec 32 := 24#32
  let c1_i32_1779 : BitVec 32 := 1#32
  let v2791 : BitVec 32 := Scalar.muli c24_i32_1778 c1_i32_1779
  let v2792 : BitVec 32 := Scalar.addi c0_i32_1780 v2791
  v2792.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_1780 : BitVec 32 := 0#32
  let c25_i32_1778 : BitVec 32 := 25#32
  let c1_i32_1779 : BitVec 32 := 1#32
  let v2791 : BitVec 32 := Scalar.muli c25_i32_1778 c1_i32_1779
  let v2792 : BitVec 32 := Scalar.addi c0_i32_1780 v2791
  v2792.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_1780 : BitVec 32 := 0#32
  let c26_i32_1778 : BitVec 32 := 26#32
  let c1_i32_1779 : BitVec 32 := 1#32
  let v2791 : BitVec 32 := Scalar.muli c26_i32_1778 c1_i32_1779
  let v2792 : BitVec 32 := Scalar.addi c0_i32_1780 v2791
  v2792.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_1780 : BitVec 32 := 0#32
  let c27_i32_1778 : BitVec 32 := 27#32
  let c1_i32_1779 : BitVec 32 := 1#32
  let v2791 : BitVec 32 := Scalar.muli c27_i32_1778 c1_i32_1779
  let v2792 : BitVec 32 := Scalar.addi c0_i32_1780 v2791
  v2792.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_1780 : BitVec 32 := 0#32
  let c28_i32_1778 : BitVec 32 := 28#32
  let c1_i32_1779 : BitVec 32 := 1#32
  let v2791 : BitVec 32 := Scalar.muli c28_i32_1778 c1_i32_1779
  let v2792 : BitVec 32 := Scalar.addi c0_i32_1780 v2791
  v2792.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_1780 : BitVec 32 := 0#32
  let c29_i32_1778 : BitVec 32 := 29#32
  let c1_i32_1779 : BitVec 32 := 1#32
  let v2791 : BitVec 32 := Scalar.muli c29_i32_1778 c1_i32_1779
  let v2792 : BitVec 32 := Scalar.addi c0_i32_1780 v2791
  v2792.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_1780 : BitVec 32 := 0#32
  let c30_i32_1778 : BitVec 32 := 30#32
  let c1_i32_1779 : BitVec 32 := 1#32
  let v2791 : BitVec 32 := Scalar.muli c30_i32_1778 c1_i32_1779
  let v2792 : BitVec 32 := Scalar.addi c0_i32_1780 v2791
  v2792.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_1780 : BitVec 32 := 0#32
  let c31_i32_1778 : BitVec 32 := 31#32
  let c1_i32_1779 : BitVec 32 := 1#32
  let v2791 : BitVec 32 := Scalar.muli c31_i32_1778 c1_i32_1779
  let v2792 : BitVec 32 := Scalar.addi c0_i32_1780 v2791
  v2792.toNat
def k0_off1 (d0 : Dev nD) (c1_i32_34 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v100 : BitVec 32 := Scalar.addi v2 c1_i32_34
  let c32_i32_35 : BitVec 32 := 32#32
  let c0_i32_36 : BitVec 32 := 0#32
  let v101 : BitVec 1 := Scalar.cmpi .eq c32_i32_35 c0_i32_36
  let c1_i32_37 : BitVec 32 := 1#32
  let v102 : BitVec 32 := Scalar.select v101 c1_i32_37 c32_i32_35
  let v103 : BitVec 32 := Scalar.remsi v100 v102
  let c0_i32_39 : BitVec 32 := 0#32
  let v105 : BitVec 1 := Scalar.cmpi .slt v103 c0_i32_39
  let c0_i32_40 : BitVec 32 := 0#32
  let v106 : BitVec 1 := Scalar.cmpi .slt v102 c0_i32_40
  let v107 : BitVec 1 := Scalar.xori v105 v106
  let c0_i32_38 : BitVec 32 := 0#32
  let v104 : BitVec 1 := Scalar.cmpi .ne v103 c0_i32_38
  let v108 : BitVec 1 := Scalar.andi v107 v104
  let v109 : BitVec 32 := Scalar.addi v103 v102
  let v110 : BitVec 32 := Scalar.select v108 v109 v103
  ![v110.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_43 : BitVec 32 := 0#32
  let c0_i32_44 : BitVec 32 := 0#32
  ![v2.toNat, 0, 0]
def k0_off4 (d0 : Dev nD) (c1_i32_34 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v100 : BitVec 32 := Scalar.addi v2 c1_i32_34
  let c32_i32_35 : BitVec 32 := 32#32
  let c0_i32_36 : BitVec 32 := 0#32
  let v101 : BitVec 1 := Scalar.cmpi .eq c32_i32_35 c0_i32_36
  let c1_i32_37 : BitVec 32 := 1#32
  let v102 : BitVec 32 := Scalar.select v101 c1_i32_37 c32_i32_35
  let v103 : BitVec 32 := Scalar.remsi v100 v102
  let c0_i32_39 : BitVec 32 := 0#32
  let v105 : BitVec 1 := Scalar.cmpi .slt v103 c0_i32_39
  let c0_i32_40 : BitVec 32 := 0#32
  let v106 : BitVec 1 := Scalar.cmpi .slt v102 c0_i32_40
  let v107 : BitVec 1 := Scalar.xori v105 v106
  let c0_i32_38 : BitVec 32 := 0#32
  let v104 : BitVec 1 := Scalar.cmpi .ne v103 c0_i32_38
  let v108 : BitVec 1 := Scalar.andi v107 v104
  let v109 : BitVec 32 := Scalar.addi v103 v102
  let v110 : BitVec 32 := Scalar.select v108 v109 v103
  let c128_i32 : BitVec 32 := 128#32
  let v111 : BitVec 32 := Scalar.muli v110 c128_i32
  let c0_i32_45 : BitVec 32 := 0#32
  ![v111.toNat, 0]
def k0_dev33 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_34 : BitVec 32 := 1#32
  let v100 : BitVec 32 := Scalar.addi v2 c1_i32_34
  let c32_i32_35 : BitVec 32 := 32#32
  let c0_i32_36 : BitVec 32 := 0#32
  let v101 : BitVec 1 := Scalar.cmpi .eq c32_i32_35 c0_i32_36
  let c1_i32_37 : BitVec 32 := 1#32
  let v102 : BitVec 32 := Scalar.select v101 c1_i32_37 c32_i32_35
  let v103 : BitVec 32 := Scalar.remsi v100 v102
  let c0_i32_39 : BitVec 32 := 0#32
  let v105 : BitVec 1 := Scalar.cmpi .slt v103 c0_i32_39
  let c0_i32_40 : BitVec 32 := 0#32
  let v106 : BitVec 1 := Scalar.cmpi .slt v102 c0_i32_40
  let v107 : BitVec 1 := Scalar.xori v105 v106
  let c0_i32_38 : BitVec 32 := 0#32
  let v104 : BitVec 1 := Scalar.cmpi .ne v103 c0_i32_38
  let v108 : BitVec 1 := Scalar.andi v107 v104
  let v109 : BitVec 32 := Scalar.addi v103 v102
  let v110 : BitVec 32 := Scalar.select v108 v109 v103
  let c1_i32_41 : BitVec 32 := 1#32
  let v112 : BitVec 32 := Scalar.muli v110 c1_i32_41
  let v113 : BitVec 32 := Scalar.addi c0_i32_42 v112
  v113.toNat
def k0_dev34 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_46 : BitVec 32 := 2#32
  let v121 : BitVec 32 := Scalar.addi v2 c2_i32_46
  let c32_i32_47 : BitVec 32 := 32#32
  let c0_i32_48 : BitVec 32 := 0#32
  let v122 : BitVec 1 := Scalar.cmpi .eq c32_i32_47 c0_i32_48
  let c1_i32_49 : BitVec 32 := 1#32
  let v123 : BitVec 32 := Scalar.select v122 c1_i32_49 c32_i32_47
  let v124 : BitVec 32 := Scalar.remsi v121 v123
  let c0_i32_51 : BitVec 32 := 0#32
  let v126 : BitVec 1 := Scalar.cmpi .slt v124 c0_i32_51
  let c0_i32_52 : BitVec 32 := 0#32
  let v127 : BitVec 1 := Scalar.cmpi .slt v123 c0_i32_52
  let v128 : BitVec 1 := Scalar.xori v126 v127
  let c0_i32_50 : BitVec 32 := 0#32
  let v125 : BitVec 1 := Scalar.cmpi .ne v124 c0_i32_50
  let v129 : BitVec 1 := Scalar.andi v128 v125
  let v130 : BitVec 32 := Scalar.addi v124 v123
  let v131 : BitVec 32 := Scalar.select v129 v130 v124
  let c1_i32_54 : BitVec 32 := 1#32
  let v133 : BitVec 32 := Scalar.muli v131 c1_i32_54
  let v134 : BitVec 32 := Scalar.addi c0_i32_55 v133
  v134.toNat
def k0_dev35 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_59 : BitVec 32 := 3#32
  let v142 : BitVec 32 := Scalar.addi v2 c3_i32_59
  let c32_i32_60 : BitVec 32 := 32#32
  let c0_i32_61 : BitVec 32 := 0#32
  let v143 : BitVec 1 := Scalar.cmpi .eq c32_i32_60 c0_i32_61
  let c1_i32_62 : BitVec 32 := 1#32
  let v144 : BitVec 32 := Scalar.select v143 c1_i32_62 c32_i32_60
  let v145 : BitVec 32 := Scalar.remsi v142 v144
  let c0_i32_64 : BitVec 32 := 0#32
  let v147 : BitVec 1 := Scalar.cmpi .slt v145 c0_i32_64
  let c0_i32_65 : BitVec 32 := 0#32
  let v148 : BitVec 1 := Scalar.cmpi .slt v144 c0_i32_65
  let v149 : BitVec 1 := Scalar.xori v147 v148
  let c0_i32_63 : BitVec 32 := 0#32
  let v146 : BitVec 1 := Scalar.cmpi .ne v145 c0_i32_63
  let v150 : BitVec 1 := Scalar.andi v149 v146
  let v151 : BitVec 32 := Scalar.addi v145 v144
  let v152 : BitVec 32 := Scalar.select v150 v151 v145
  let c1_i32_67 : BitVec 32 := 1#32
  let v154 : BitVec 32 := Scalar.muli v152 c1_i32_67
  let v155 : BitVec 32 := Scalar.addi c0_i32_68 v154
  v155.toNat
def k0_dev36 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_72 : BitVec 32 := 4#32
  let v163 : BitVec 32 := Scalar.addi v2 c4_i32_72
  let c32_i32_73 : BitVec 32 := 32#32
  let c0_i32_74 : BitVec 32 := 0#32
  let v164 : BitVec 1 := Scalar.cmpi .eq c32_i32_73 c0_i32_74
  let c1_i32_75 : BitVec 32 := 1#32
  let v165 : BitVec 32 := Scalar.select v164 c1_i32_75 c32_i32_73
  let v166 : BitVec 32 := Scalar.remsi v163 v165
  let c0_i32_77 : BitVec 32 := 0#32
  let v168 : BitVec 1 := Scalar.cmpi .slt v166 c0_i32_77
  let c0_i32_78 : BitVec 32 := 0#32
  let v169 : BitVec 1 := Scalar.cmpi .slt v165 c0_i32_78
  let v170 : BitVec 1 := Scalar.xori v168 v169
  let c0_i32_76 : BitVec 32 := 0#32
  let v167 : BitVec 1 := Scalar.cmpi .ne v166 c0_i32_76
  let v171 : BitVec 1 := Scalar.andi v170 v167
  let v172 : BitVec 32 := Scalar.addi v166 v165
  let v173 : BitVec 32 := Scalar.select v171 v172 v166
  let c1_i32_80 : BitVec 32 := 1#32
  let v175 : BitVec 32 := Scalar.muli v173 c1_i32_80
  let v176 : BitVec 32 := Scalar.addi c0_i32_81 v175
  v176.toNat
def k0_dev37 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_85 : BitVec 32 := 5#32
  let v184 : BitVec 32 := Scalar.addi v2 c5_i32_85
  let c32_i32_86 : BitVec 32 := 32#32
  let c0_i32_87 : BitVec 32 := 0#32
  let v185 : BitVec 1 := Scalar.cmpi .eq c32_i32_86 c0_i32_87
  let c1_i32_88 : BitVec 32 := 1#32
  let v186 : BitVec 32 := Scalar.select v185 c1_i32_88 c32_i32_86
  let v187 : BitVec 32 := Scalar.remsi v184 v186
  let c0_i32_90 : BitVec 32 := 0#32
  let v189 : BitVec 1 := Scalar.cmpi .slt v187 c0_i32_90
  let c0_i32_91 : BitVec 32 := 0#32
  let v190 : BitVec 1 := Scalar.cmpi .slt v186 c0_i32_91
  let v191 : BitVec 1 := Scalar.xori v189 v190
  let c0_i32_89 : BitVec 32 := 0#32
  let v188 : BitVec 1 := Scalar.cmpi .ne v187 c0_i32_89
  let v192 : BitVec 1 := Scalar.andi v191 v188
  let v193 : BitVec 32 := Scalar.addi v187 v186
  let v194 : BitVec 32 := Scalar.select v192 v193 v187
  let c1_i32_93 : BitVec 32 := 1#32
  let v196 : BitVec 32 := Scalar.muli v194 c1_i32_93
  let v197 : BitVec 32 := Scalar.addi c0_i32_94 v196
  v197.toNat
def k0_dev38 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_98 : BitVec 32 := 6#32
  let v205 : BitVec 32 := Scalar.addi v2 c6_i32_98
  let c32_i32_99 : BitVec 32 := 32#32
  let c0_i32_100 : BitVec 32 := 0#32
  let v206 : BitVec 1 := Scalar.cmpi .eq c32_i32_99 c0_i32_100
  let c1_i32_101 : BitVec 32 := 1#32
  let v207 : BitVec 32 := Scalar.select v206 c1_i32_101 c32_i32_99
  let v208 : BitVec 32 := Scalar.remsi v205 v207
  let c0_i32_103 : BitVec 32 := 0#32
  let v210 : BitVec 1 := Scalar.cmpi .slt v208 c0_i32_103
  let c0_i32_104 : BitVec 32 := 0#32
  let v211 : BitVec 1 := Scalar.cmpi .slt v207 c0_i32_104
  let v212 : BitVec 1 := Scalar.xori v210 v211
  let c0_i32_102 : BitVec 32 := 0#32
  let v209 : BitVec 1 := Scalar.cmpi .ne v208 c0_i32_102
  let v213 : BitVec 1 := Scalar.andi v212 v209
  let v214 : BitVec 32 := Scalar.addi v208 v207
  let v215 : BitVec 32 := Scalar.select v213 v214 v208
  let c1_i32_106 : BitVec 32 := 1#32
  let v217 : BitVec 32 := Scalar.muli v215 c1_i32_106
  let v218 : BitVec 32 := Scalar.addi c0_i32_107 v217
  v218.toNat
def k0_dev39 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_111 : BitVec 32 := 7#32
  let v226 : BitVec 32 := Scalar.addi v2 c7_i32_111
  let c32_i32_112 : BitVec 32 := 32#32
  let c0_i32_113 : BitVec 32 := 0#32
  let v227 : BitVec 1 := Scalar.cmpi .eq c32_i32_112 c0_i32_113
  let c1_i32_114 : BitVec 32 := 1#32
  let v228 : BitVec 32 := Scalar.select v227 c1_i32_114 c32_i32_112
  let v229 : BitVec 32 := Scalar.remsi v226 v228
  let c0_i32_116 : BitVec 32 := 0#32
  let v231 : BitVec 1 := Scalar.cmpi .slt v229 c0_i32_116
  let c0_i32_117 : BitVec 32 := 0#32
  let v232 : BitVec 1 := Scalar.cmpi .slt v228 c0_i32_117
  let v233 : BitVec 1 := Scalar.xori v231 v232
  let c0_i32_115 : BitVec 32 := 0#32
  let v230 : BitVec 1 := Scalar.cmpi .ne v229 c0_i32_115
  let v234 : BitVec 1 := Scalar.andi v233 v230
  let v235 : BitVec 32 := Scalar.addi v229 v228
  let v236 : BitVec 32 := Scalar.select v234 v235 v229
  let c1_i32_119 : BitVec 32 := 1#32
  let v238 : BitVec 32 := Scalar.muli v236 c1_i32_119
  let v239 : BitVec 32 := Scalar.addi c0_i32_120 v238
  v239.toNat
def k0_dev40 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_124 : BitVec 32 := 8#32
  let v247 : BitVec 32 := Scalar.addi v2 c8_i32_124
  let c32_i32_125 : BitVec 32 := 32#32
  let c0_i32_126 : BitVec 32 := 0#32
  let v248 : BitVec 1 := Scalar.cmpi .eq c32_i32_125 c0_i32_126
  let c1_i32_127 : BitVec 32 := 1#32
  let v249 : BitVec 32 := Scalar.select v248 c1_i32_127 c32_i32_125
  let v250 : BitVec 32 := Scalar.remsi v247 v249
  let c0_i32_129 : BitVec 32 := 0#32
  let v252 : BitVec 1 := Scalar.cmpi .slt v250 c0_i32_129
  let c0_i32_130 : BitVec 32 := 0#32
  let v253 : BitVec 1 := Scalar.cmpi .slt v249 c0_i32_130
  let v254 : BitVec 1 := Scalar.xori v252 v253
  let c0_i32_128 : BitVec 32 := 0#32
  let v251 : BitVec 1 := Scalar.cmpi .ne v250 c0_i32_128
  let v255 : BitVec 1 := Scalar.andi v254 v251
  let v256 : BitVec 32 := Scalar.addi v250 v249
  let v257 : BitVec 32 := Scalar.select v255 v256 v250
  let c1_i32_132 : BitVec 32 := 1#32
  let v259 : BitVec 32 := Scalar.muli v257 c1_i32_132
  let v260 : BitVec 32 := Scalar.addi c0_i32_133 v259
  v260.toNat
def k0_dev41 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_137 : BitVec 32 := 9#32
  let v268 : BitVec 32 := Scalar.addi v2 c9_i32_137
  let c32_i32_138 : BitVec 32 := 32#32
  let c0_i32_139 : BitVec 32 := 0#32
  let v269 : BitVec 1 := Scalar.cmpi .eq c32_i32_138 c0_i32_139
  let c1_i32_140 : BitVec 32 := 1#32
  let v270 : BitVec 32 := Scalar.select v269 c1_i32_140 c32_i32_138
  let v271 : BitVec 32 := Scalar.remsi v268 v270
  let c0_i32_142 : BitVec 32 := 0#32
  let v273 : BitVec 1 := Scalar.cmpi .slt v271 c0_i32_142
  let c0_i32_143 : BitVec 32 := 0#32
  let v274 : BitVec 1 := Scalar.cmpi .slt v270 c0_i32_143
  let v275 : BitVec 1 := Scalar.xori v273 v274
  let c0_i32_141 : BitVec 32 := 0#32
  let v272 : BitVec 1 := Scalar.cmpi .ne v271 c0_i32_141
  let v276 : BitVec 1 := Scalar.andi v275 v272
  let v277 : BitVec 32 := Scalar.addi v271 v270
  let v278 : BitVec 32 := Scalar.select v276 v277 v271
  let c1_i32_145 : BitVec 32 := 1#32
  let v280 : BitVec 32 := Scalar.muli v278 c1_i32_145
  let v281 : BitVec 32 := Scalar.addi c0_i32_146 v280
  v281.toNat
def k0_dev42 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_150 : BitVec 32 := 10#32
  let v289 : BitVec 32 := Scalar.addi v2 c10_i32_150
  let c32_i32_151 : BitVec 32 := 32#32
  let c0_i32_152 : BitVec 32 := 0#32
  let v290 : BitVec 1 := Scalar.cmpi .eq c32_i32_151 c0_i32_152
  let c1_i32_153 : BitVec 32 := 1#32
  let v291 : BitVec 32 := Scalar.select v290 c1_i32_153 c32_i32_151
  let v292 : BitVec 32 := Scalar.remsi v289 v291
  let c0_i32_155 : BitVec 32 := 0#32
  let v294 : BitVec 1 := Scalar.cmpi .slt v292 c0_i32_155
  let c0_i32_156 : BitVec 32 := 0#32
  let v295 : BitVec 1 := Scalar.cmpi .slt v291 c0_i32_156
  let v296 : BitVec 1 := Scalar.xori v294 v295
  let c0_i32_154 : BitVec 32 := 0#32
  let v293 : BitVec 1 := Scalar.cmpi .ne v292 c0_i32_154
  let v297 : BitVec 1 := Scalar.andi v296 v293
  let v298 : BitVec 32 := Scalar.addi v292 v291
  let v299 : BitVec 32 := Scalar.select v297 v298 v292
  let c1_i32_158 : BitVec 32 := 1#32
  let v301 : BitVec 32 := Scalar.muli v299 c1_i32_158
  let v302 : BitVec 32 := Scalar.addi c0_i32_159 v301
  v302.toNat
def k0_dev43 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_163 : BitVec 32 := 11#32
  let v310 : BitVec 32 := Scalar.addi v2 c11_i32_163
  let c32_i32_164 : BitVec 32 := 32#32
  let c0_i32_165 : BitVec 32 := 0#32
  let v311 : BitVec 1 := Scalar.cmpi .eq c32_i32_164 c0_i32_165
  let c1_i32_166 : BitVec 32 := 1#32
  let v312 : BitVec 32 := Scalar.select v311 c1_i32_166 c32_i32_164
  let v313 : BitVec 32 := Scalar.remsi v310 v312
  let c0_i32_168 : BitVec 32 := 0#32
  let v315 : BitVec 1 := Scalar.cmpi .slt v313 c0_i32_168
  let c0_i32_169 : BitVec 32 := 0#32
  let v316 : BitVec 1 := Scalar.cmpi .slt v312 c0_i32_169
  let v317 : BitVec 1 := Scalar.xori v315 v316
  let c0_i32_167 : BitVec 32 := 0#32
  let v314 : BitVec 1 := Scalar.cmpi .ne v313 c0_i32_167
  let v318 : BitVec 1 := Scalar.andi v317 v314
  let v319 : BitVec 32 := Scalar.addi v313 v312
  let v320 : BitVec 32 := Scalar.select v318 v319 v313
  let c1_i32_171 : BitVec 32 := 1#32
  let v322 : BitVec 32 := Scalar.muli v320 c1_i32_171
  let v323 : BitVec 32 := Scalar.addi c0_i32_172 v322
  v323.toNat
def k0_dev44 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_176 : BitVec 32 := 12#32
  let v331 : BitVec 32 := Scalar.addi v2 c12_i32_176
  let c32_i32_177 : BitVec 32 := 32#32
  let c0_i32_178 : BitVec 32 := 0#32
  let v332 : BitVec 1 := Scalar.cmpi .eq c32_i32_177 c0_i32_178
  let c1_i32_179 : BitVec 32 := 1#32
  let v333 : BitVec 32 := Scalar.select v332 c1_i32_179 c32_i32_177
  let v334 : BitVec 32 := Scalar.remsi v331 v333
  let c0_i32_181 : BitVec 32 := 0#32
  let v336 : BitVec 1 := Scalar.cmpi .slt v334 c0_i32_181
  let c0_i32_182 : BitVec 32 := 0#32
  let v337 : BitVec 1 := Scalar.cmpi .slt v333 c0_i32_182
  let v338 : BitVec 1 := Scalar.xori v336 v337
  let c0_i32_180 : BitVec 32 := 0#32
  let v335 : BitVec 1 := Scalar.cmpi .ne v334 c0_i32_180
  let v339 : BitVec 1 := Scalar.andi v338 v335
  let v340 : BitVec 32 := Scalar.addi v334 v333
  let v341 : BitVec 32 := Scalar.select v339 v340 v334
  let c1_i32_184 : BitVec 32 := 1#32
  let v343 : BitVec 32 := Scalar.muli v341 c1_i32_184
  let v344 : BitVec 32 := Scalar.addi c0_i32_185 v343
  v344.toNat
def k0_dev45 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_189 : BitVec 32 := 13#32
  let v352 : BitVec 32 := Scalar.addi v2 c13_i32_189
  let c32_i32_190 : BitVec 32 := 32#32
  let c0_i32_191 : BitVec 32 := 0#32
  let v353 : BitVec 1 := Scalar.cmpi .eq c32_i32_190 c0_i32_191
  let c1_i32_192 : BitVec 32 := 1#32
  let v354 : BitVec 32 := Scalar.select v353 c1_i32_192 c32_i32_190
  let v355 : BitVec 32 := Scalar.remsi v352 v354
  let c0_i32_194 : BitVec 32 := 0#32
  let v357 : BitVec 1 := Scalar.cmpi .slt v355 c0_i32_194
  let c0_i32_195 : BitVec 32 := 0#32
  let v358 : BitVec 1 := Scalar.cmpi .slt v354 c0_i32_195
  let v359 : BitVec 1 := Scalar.xori v357 v358
  let c0_i32_193 : BitVec 32 := 0#32
  let v356 : BitVec 1 := Scalar.cmpi .ne v355 c0_i32_193
  let v360 : BitVec 1 := Scalar.andi v359 v356
  let v361 : BitVec 32 := Scalar.addi v355 v354
  let v362 : BitVec 32 := Scalar.select v360 v361 v355
  let c1_i32_197 : BitVec 32 := 1#32
  let v364 : BitVec 32 := Scalar.muli v362 c1_i32_197
  let v365 : BitVec 32 := Scalar.addi c0_i32_198 v364
  v365.toNat
def k0_dev46 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_202 : BitVec 32 := 14#32
  let v373 : BitVec 32 := Scalar.addi v2 c14_i32_202
  let c32_i32_203 : BitVec 32 := 32#32
  let c0_i32_204 : BitVec 32 := 0#32
  let v374 : BitVec 1 := Scalar.cmpi .eq c32_i32_203 c0_i32_204
  let c1_i32_205 : BitVec 32 := 1#32
  let v375 : BitVec 32 := Scalar.select v374 c1_i32_205 c32_i32_203
  let v376 : BitVec 32 := Scalar.remsi v373 v375
  let c0_i32_207 : BitVec 32 := 0#32
  let v378 : BitVec 1 := Scalar.cmpi .slt v376 c0_i32_207
  let c0_i32_208 : BitVec 32 := 0#32
  let v379 : BitVec 1 := Scalar.cmpi .slt v375 c0_i32_208
  let v380 : BitVec 1 := Scalar.xori v378 v379
  let c0_i32_206 : BitVec 32 := 0#32
  let v377 : BitVec 1 := Scalar.cmpi .ne v376 c0_i32_206
  let v381 : BitVec 1 := Scalar.andi v380 v377
  let v382 : BitVec 32 := Scalar.addi v376 v375
  let v383 : BitVec 32 := Scalar.select v381 v382 v376
  let c1_i32_210 : BitVec 32 := 1#32
  let v385 : BitVec 32 := Scalar.muli v383 c1_i32_210
  let v386 : BitVec 32 := Scalar.addi c0_i32_211 v385
  v386.toNat
def k0_dev47 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_215 : BitVec 32 := 15#32
  let v394 : BitVec 32 := Scalar.addi v2 c15_i32_215
  let c32_i32_216 : BitVec 32 := 32#32
  let c0_i32_217 : BitVec 32 := 0#32
  let v395 : BitVec 1 := Scalar.cmpi .eq c32_i32_216 c0_i32_217
  let c1_i32_218 : BitVec 32 := 1#32
  let v396 : BitVec 32 := Scalar.select v395 c1_i32_218 c32_i32_216
  let v397 : BitVec 32 := Scalar.remsi v394 v396
  let c0_i32_220 : BitVec 32 := 0#32
  let v399 : BitVec 1 := Scalar.cmpi .slt v397 c0_i32_220
  let c0_i32_221 : BitVec 32 := 0#32
  let v400 : BitVec 1 := Scalar.cmpi .slt v396 c0_i32_221
  let v401 : BitVec 1 := Scalar.xori v399 v400
  let c0_i32_219 : BitVec 32 := 0#32
  let v398 : BitVec 1 := Scalar.cmpi .ne v397 c0_i32_219
  let v402 : BitVec 1 := Scalar.andi v401 v398
  let v403 : BitVec 32 := Scalar.addi v397 v396
  let v404 : BitVec 32 := Scalar.select v402 v403 v397
  let c1_i32_223 : BitVec 32 := 1#32
  let v406 : BitVec 32 := Scalar.muli v404 c1_i32_223
  let v407 : BitVec 32 := Scalar.addi c0_i32_224 v406
  v407.toNat
def k0_dev48 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_228 : BitVec 32 := 16#32
  let v415 : BitVec 32 := Scalar.addi v2 c16_i32_228
  let c32_i32_229 : BitVec 32 := 32#32
  let c0_i32_230 : BitVec 32 := 0#32
  let v416 : BitVec 1 := Scalar.cmpi .eq c32_i32_229 c0_i32_230
  let c1_i32_231 : BitVec 32 := 1#32
  let v417 : BitVec 32 := Scalar.select v416 c1_i32_231 c32_i32_229
  let v418 : BitVec 32 := Scalar.remsi v415 v417
  let c0_i32_233 : BitVec 32 := 0#32
  let v420 : BitVec 1 := Scalar.cmpi .slt v418 c0_i32_233
  let c0_i32_234 : BitVec 32 := 0#32
  let v421 : BitVec 1 := Scalar.cmpi .slt v417 c0_i32_234
  let v422 : BitVec 1 := Scalar.xori v420 v421
  let c0_i32_232 : BitVec 32 := 0#32
  let v419 : BitVec 1 := Scalar.cmpi .ne v418 c0_i32_232
  let v423 : BitVec 1 := Scalar.andi v422 v419
  let v424 : BitVec 32 := Scalar.addi v418 v417
  let v425 : BitVec 32 := Scalar.select v423 v424 v418
  let c1_i32_236 : BitVec 32 := 1#32
  let v427 : BitVec 32 := Scalar.muli v425 c1_i32_236
  let v428 : BitVec 32 := Scalar.addi c0_i32_237 v427
  v428.toNat
def k0_dev49 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_241 : BitVec 32 := 17#32
  let v436 : BitVec 32 := Scalar.addi v2 c17_i32_241
  let c32_i32_242 : BitVec 32 := 32#32
  let c0_i32_243 : BitVec 32 := 0#32
  let v437 : BitVec 1 := Scalar.cmpi .eq c32_i32_242 c0_i32_243
  let c1_i32_244 : BitVec 32 := 1#32
  let v438 : BitVec 32 := Scalar.select v437 c1_i32_244 c32_i32_242
  let v439 : BitVec 32 := Scalar.remsi v436 v438
  let c0_i32_246 : BitVec 32 := 0#32
  let v441 : BitVec 1 := Scalar.cmpi .slt v439 c0_i32_246
  let c0_i32_247 : BitVec 32 := 0#32
  let v442 : BitVec 1 := Scalar.cmpi .slt v438 c0_i32_247
  let v443 : BitVec 1 := Scalar.xori v441 v442
  let c0_i32_245 : BitVec 32 := 0#32
  let v440 : BitVec 1 := Scalar.cmpi .ne v439 c0_i32_245
  let v444 : BitVec 1 := Scalar.andi v443 v440
  let v445 : BitVec 32 := Scalar.addi v439 v438
  let v446 : BitVec 32 := Scalar.select v444 v445 v439
  let c1_i32_249 : BitVec 32 := 1#32
  let v448 : BitVec 32 := Scalar.muli v446 c1_i32_249
  let v449 : BitVec 32 := Scalar.addi c0_i32_250 v448
  v449.toNat
def k0_dev50 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_254 : BitVec 32 := 18#32
  let v457 : BitVec 32 := Scalar.addi v2 c18_i32_254
  let c32_i32_255 : BitVec 32 := 32#32
  let c0_i32_256 : BitVec 32 := 0#32
  let v458 : BitVec 1 := Scalar.cmpi .eq c32_i32_255 c0_i32_256
  let c1_i32_257 : BitVec 32 := 1#32
  let v459 : BitVec 32 := Scalar.select v458 c1_i32_257 c32_i32_255
  let v460 : BitVec 32 := Scalar.remsi v457 v459
  let c0_i32_259 : BitVec 32 := 0#32
  let v462 : BitVec 1 := Scalar.cmpi .slt v460 c0_i32_259
  let c0_i32_260 : BitVec 32 := 0#32
  let v463 : BitVec 1 := Scalar.cmpi .slt v459 c0_i32_260
  let v464 : BitVec 1 := Scalar.xori v462 v463
  let c0_i32_258 : BitVec 32 := 0#32
  let v461 : BitVec 1 := Scalar.cmpi .ne v460 c0_i32_258
  let v465 : BitVec 1 := Scalar.andi v464 v461
  let v466 : BitVec 32 := Scalar.addi v460 v459
  let v467 : BitVec 32 := Scalar.select v465 v466 v460
  let c1_i32_262 : BitVec 32 := 1#32
  let v469 : BitVec 32 := Scalar.muli v467 c1_i32_262
  let v470 : BitVec 32 := Scalar.addi c0_i32_263 v469
  v470.toNat
def k0_dev51 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_267 : BitVec 32 := 19#32
  let v478 : BitVec 32 := Scalar.addi v2 c19_i32_267
  let c32_i32_268 : BitVec 32 := 32#32
  let c0_i32_269 : BitVec 32 := 0#32
  let v479 : BitVec 1 := Scalar.cmpi .eq c32_i32_268 c0_i32_269
  let c1_i32_270 : BitVec 32 := 1#32
  let v480 : BitVec 32 := Scalar.select v479 c1_i32_270 c32_i32_268
  let v481 : BitVec 32 := Scalar.remsi v478 v480
  let c0_i32_272 : BitVec 32 := 0#32
  let v483 : BitVec 1 := Scalar.cmpi .slt v481 c0_i32_272
  let c0_i32_273 : BitVec 32 := 0#32
  let v484 : BitVec 1 := Scalar.cmpi .slt v480 c0_i32_273
  let v485 : BitVec 1 := Scalar.xori v483 v484
  let c0_i32_271 : BitVec 32 := 0#32
  let v482 : BitVec 1 := Scalar.cmpi .ne v481 c0_i32_271
  let v486 : BitVec 1 := Scalar.andi v485 v482
  let v487 : BitVec 32 := Scalar.addi v481 v480
  let v488 : BitVec 32 := Scalar.select v486 v487 v481
  let c1_i32_275 : BitVec 32 := 1#32
  let v490 : BitVec 32 := Scalar.muli v488 c1_i32_275
  let v491 : BitVec 32 := Scalar.addi c0_i32_276 v490
  v491.toNat
def k0_dev52 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_280 : BitVec 32 := 20#32
  let v499 : BitVec 32 := Scalar.addi v2 c20_i32_280
  let c32_i32_281 : BitVec 32 := 32#32
  let c0_i32_282 : BitVec 32 := 0#32
  let v500 : BitVec 1 := Scalar.cmpi .eq c32_i32_281 c0_i32_282
  let c1_i32_283 : BitVec 32 := 1#32
  let v501 : BitVec 32 := Scalar.select v500 c1_i32_283 c32_i32_281
  let v502 : BitVec 32 := Scalar.remsi v499 v501
  let c0_i32_285 : BitVec 32 := 0#32
  let v504 : BitVec 1 := Scalar.cmpi .slt v502 c0_i32_285
  let c0_i32_286 : BitVec 32 := 0#32
  let v505 : BitVec 1 := Scalar.cmpi .slt v501 c0_i32_286
  let v506 : BitVec 1 := Scalar.xori v504 v505
  let c0_i32_284 : BitVec 32 := 0#32
  let v503 : BitVec 1 := Scalar.cmpi .ne v502 c0_i32_284
  let v507 : BitVec 1 := Scalar.andi v506 v503
  let v508 : BitVec 32 := Scalar.addi v502 v501
  let v509 : BitVec 32 := Scalar.select v507 v508 v502
  let c1_i32_288 : BitVec 32 := 1#32
  let v511 : BitVec 32 := Scalar.muli v509 c1_i32_288
  let v512 : BitVec 32 := Scalar.addi c0_i32_289 v511
  v512.toNat
def k0_dev53 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_293 : BitVec 32 := 21#32
  let v520 : BitVec 32 := Scalar.addi v2 c21_i32_293
  let c32_i32_294 : BitVec 32 := 32#32
  let c0_i32_295 : BitVec 32 := 0#32
  let v521 : BitVec 1 := Scalar.cmpi .eq c32_i32_294 c0_i32_295
  let c1_i32_296 : BitVec 32 := 1#32
  let v522 : BitVec 32 := Scalar.select v521 c1_i32_296 c32_i32_294
  let v523 : BitVec 32 := Scalar.remsi v520 v522
  let c0_i32_298 : BitVec 32 := 0#32
  let v525 : BitVec 1 := Scalar.cmpi .slt v523 c0_i32_298
  let c0_i32_299 : BitVec 32 := 0#32
  let v526 : BitVec 1 := Scalar.cmpi .slt v522 c0_i32_299
  let v527 : BitVec 1 := Scalar.xori v525 v526
  let c0_i32_297 : BitVec 32 := 0#32
  let v524 : BitVec 1 := Scalar.cmpi .ne v523 c0_i32_297
  let v528 : BitVec 1 := Scalar.andi v527 v524
  let v529 : BitVec 32 := Scalar.addi v523 v522
  let v530 : BitVec 32 := Scalar.select v528 v529 v523
  let c1_i32_301 : BitVec 32 := 1#32
  let v532 : BitVec 32 := Scalar.muli v530 c1_i32_301
  let v533 : BitVec 32 := Scalar.addi c0_i32_302 v532
  v533.toNat
def k0_dev54 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_306 : BitVec 32 := 22#32
  let v541 : BitVec 32 := Scalar.addi v2 c22_i32_306
  let c32_i32_307 : BitVec 32 := 32#32
  let c0_i32_308 : BitVec 32 := 0#32
  let v542 : BitVec 1 := Scalar.cmpi .eq c32_i32_307 c0_i32_308
  let c1_i32_309 : BitVec 32 := 1#32
  let v543 : BitVec 32 := Scalar.select v542 c1_i32_309 c32_i32_307
  let v544 : BitVec 32 := Scalar.remsi v541 v543
  let c0_i32_311 : BitVec 32 := 0#32
  let v546 : BitVec 1 := Scalar.cmpi .slt v544 c0_i32_311
  let c0_i32_312 : BitVec 32 := 0#32
  let v547 : BitVec 1 := Scalar.cmpi .slt v543 c0_i32_312
  let v548 : BitVec 1 := Scalar.xori v546 v547
  let c0_i32_310 : BitVec 32 := 0#32
  let v545 : BitVec 1 := Scalar.cmpi .ne v544 c0_i32_310
  let v549 : BitVec 1 := Scalar.andi v548 v545
  let v550 : BitVec 32 := Scalar.addi v544 v543
  let v551 : BitVec 32 := Scalar.select v549 v550 v544
  let c1_i32_314 : BitVec 32 := 1#32
  let v553 : BitVec 32 := Scalar.muli v551 c1_i32_314
  let v554 : BitVec 32 := Scalar.addi c0_i32_315 v553
  v554.toNat
def k0_dev55 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_319 : BitVec 32 := 23#32
  let v562 : BitVec 32 := Scalar.addi v2 c23_i32_319
  let c32_i32_320 : BitVec 32 := 32#32
  let c0_i32_321 : BitVec 32 := 0#32
  let v563 : BitVec 1 := Scalar.cmpi .eq c32_i32_320 c0_i32_321
  let c1_i32_322 : BitVec 32 := 1#32
  let v564 : BitVec 32 := Scalar.select v563 c1_i32_322 c32_i32_320
  let v565 : BitVec 32 := Scalar.remsi v562 v564
  let c0_i32_324 : BitVec 32 := 0#32
  let v567 : BitVec 1 := Scalar.cmpi .slt v565 c0_i32_324
  let c0_i32_325 : BitVec 32 := 0#32
  let v568 : BitVec 1 := Scalar.cmpi .slt v564 c0_i32_325
  let v569 : BitVec 1 := Scalar.xori v567 v568
  let c0_i32_323 : BitVec 32 := 0#32
  let v566 : BitVec 1 := Scalar.cmpi .ne v565 c0_i32_323
  let v570 : BitVec 1 := Scalar.andi v569 v566
  let v571 : BitVec 32 := Scalar.addi v565 v564
  let v572 : BitVec 32 := Scalar.select v570 v571 v565
  let c1_i32_327 : BitVec 32 := 1#32
  let v574 : BitVec 32 := Scalar.muli v572 c1_i32_327
  let v575 : BitVec 32 := Scalar.addi c0_i32_328 v574
  v575.toNat
def k0_dev56 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_332 : BitVec 32 := 24#32
  let v583 : BitVec 32 := Scalar.addi v2 c24_i32_332
  let c32_i32_333 : BitVec 32 := 32#32
  let c0_i32_334 : BitVec 32 := 0#32
  let v584 : BitVec 1 := Scalar.cmpi .eq c32_i32_333 c0_i32_334
  let c1_i32_335 : BitVec 32 := 1#32
  let v585 : BitVec 32 := Scalar.select v584 c1_i32_335 c32_i32_333
  let v586 : BitVec 32 := Scalar.remsi v583 v585
  let c0_i32_337 : BitVec 32 := 0#32
  let v588 : BitVec 1 := Scalar.cmpi .slt v586 c0_i32_337
  let c0_i32_338 : BitVec 32 := 0#32
  let v589 : BitVec 1 := Scalar.cmpi .slt v585 c0_i32_338
  let v590 : BitVec 1 := Scalar.xori v588 v589
  let c0_i32_336 : BitVec 32 := 0#32
  let v587 : BitVec 1 := Scalar.cmpi .ne v586 c0_i32_336
  let v591 : BitVec 1 := Scalar.andi v590 v587
  let v592 : BitVec 32 := Scalar.addi v586 v585
  let v593 : BitVec 32 := Scalar.select v591 v592 v586
  let c1_i32_340 : BitVec 32 := 1#32
  let v595 : BitVec 32 := Scalar.muli v593 c1_i32_340
  let v596 : BitVec 32 := Scalar.addi c0_i32_341 v595
  v596.toNat
def k0_dev57 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_345 : BitVec 32 := 25#32
  let v604 : BitVec 32 := Scalar.addi v2 c25_i32_345
  let c32_i32_346 : BitVec 32 := 32#32
  let c0_i32_347 : BitVec 32 := 0#32
  let v605 : BitVec 1 := Scalar.cmpi .eq c32_i32_346 c0_i32_347
  let c1_i32_348 : BitVec 32 := 1#32
  let v606 : BitVec 32 := Scalar.select v605 c1_i32_348 c32_i32_346
  let v607 : BitVec 32 := Scalar.remsi v604 v606
  let c0_i32_350 : BitVec 32 := 0#32
  let v609 : BitVec 1 := Scalar.cmpi .slt v607 c0_i32_350
  let c0_i32_351 : BitVec 32 := 0#32
  let v610 : BitVec 1 := Scalar.cmpi .slt v606 c0_i32_351
  let v611 : BitVec 1 := Scalar.xori v609 v610
  let c0_i32_349 : BitVec 32 := 0#32
  let v608 : BitVec 1 := Scalar.cmpi .ne v607 c0_i32_349
  let v612 : BitVec 1 := Scalar.andi v611 v608
  let v613 : BitVec 32 := Scalar.addi v607 v606
  let v614 : BitVec 32 := Scalar.select v612 v613 v607
  let c1_i32_353 : BitVec 32 := 1#32
  let v616 : BitVec 32 := Scalar.muli v614 c1_i32_353
  let v617 : BitVec 32 := Scalar.addi c0_i32_354 v616
  v617.toNat
def k0_dev58 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_358 : BitVec 32 := 26#32
  let v625 : BitVec 32 := Scalar.addi v2 c26_i32_358
  let c32_i32_359 : BitVec 32 := 32#32
  let c0_i32_360 : BitVec 32 := 0#32
  let v626 : BitVec 1 := Scalar.cmpi .eq c32_i32_359 c0_i32_360
  let c1_i32_361 : BitVec 32 := 1#32
  let v627 : BitVec 32 := Scalar.select v626 c1_i32_361 c32_i32_359
  let v628 : BitVec 32 := Scalar.remsi v625 v627
  let c0_i32_363 : BitVec 32 := 0#32
  let v630 : BitVec 1 := Scalar.cmpi .slt v628 c0_i32_363
  let c0_i32_364 : BitVec 32 := 0#32
  let v631 : BitVec 1 := Scalar.cmpi .slt v627 c0_i32_364
  let v632 : BitVec 1 := Scalar.xori v630 v631
  let c0_i32_362 : BitVec 32 := 0#32
  let v629 : BitVec 1 := Scalar.cmpi .ne v628 c0_i32_362
  let v633 : BitVec 1 := Scalar.andi v632 v629
  let v634 : BitVec 32 := Scalar.addi v628 v627
  let v635 : BitVec 32 := Scalar.select v633 v634 v628
  let c1_i32_366 : BitVec 32 := 1#32
  let v637 : BitVec 32 := Scalar.muli v635 c1_i32_366
  let v638 : BitVec 32 := Scalar.addi c0_i32_367 v637
  v638.toNat
def k0_dev59 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_371 : BitVec 32 := 27#32
  let v646 : BitVec 32 := Scalar.addi v2 c27_i32_371
  let c32_i32_372 : BitVec 32 := 32#32
  let c0_i32_373 : BitVec 32 := 0#32
  let v647 : BitVec 1 := Scalar.cmpi .eq c32_i32_372 c0_i32_373
  let c1_i32_374 : BitVec 32 := 1#32
  let v648 : BitVec 32 := Scalar.select v647 c1_i32_374 c32_i32_372
  let v649 : BitVec 32 := Scalar.remsi v646 v648
  let c0_i32_376 : BitVec 32 := 0#32
  let v651 : BitVec 1 := Scalar.cmpi .slt v649 c0_i32_376
  let c0_i32_377 : BitVec 32 := 0#32
  let v652 : BitVec 1 := Scalar.cmpi .slt v648 c0_i32_377
  let v653 : BitVec 1 := Scalar.xori v651 v652
  let c0_i32_375 : BitVec 32 := 0#32
  let v650 : BitVec 1 := Scalar.cmpi .ne v649 c0_i32_375
  let v654 : BitVec 1 := Scalar.andi v653 v650
  let v655 : BitVec 32 := Scalar.addi v649 v648
  let v656 : BitVec 32 := Scalar.select v654 v655 v649
  let c1_i32_379 : BitVec 32 := 1#32
  let v658 : BitVec 32 := Scalar.muli v656 c1_i32_379
  let v659 : BitVec 32 := Scalar.addi c0_i32_380 v658
  v659.toNat
def k0_dev60 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_384 : BitVec 32 := 28#32
  let v667 : BitVec 32 := Scalar.addi v2 c28_i32_384
  let c32_i32_385 : BitVec 32 := 32#32
  let c0_i32_386 : BitVec 32 := 0#32
  let v668 : BitVec 1 := Scalar.cmpi .eq c32_i32_385 c0_i32_386
  let c1_i32_387 : BitVec 32 := 1#32
  let v669 : BitVec 32 := Scalar.select v668 c1_i32_387 c32_i32_385
  let v670 : BitVec 32 := Scalar.remsi v667 v669
  let c0_i32_389 : BitVec 32 := 0#32
  let v672 : BitVec 1 := Scalar.cmpi .slt v670 c0_i32_389
  let c0_i32_390 : BitVec 32 := 0#32
  let v673 : BitVec 1 := Scalar.cmpi .slt v669 c0_i32_390
  let v674 : BitVec 1 := Scalar.xori v672 v673
  let c0_i32_388 : BitVec 32 := 0#32
  let v671 : BitVec 1 := Scalar.cmpi .ne v670 c0_i32_388
  let v675 : BitVec 1 := Scalar.andi v674 v671
  let v676 : BitVec 32 := Scalar.addi v670 v669
  let v677 : BitVec 32 := Scalar.select v675 v676 v670
  let c1_i32_392 : BitVec 32 := 1#32
  let v679 : BitVec 32 := Scalar.muli v677 c1_i32_392
  let v680 : BitVec 32 := Scalar.addi c0_i32_393 v679
  v680.toNat
def k0_dev61 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_397 : BitVec 32 := 29#32
  let v688 : BitVec 32 := Scalar.addi v2 c29_i32_397
  let c32_i32_398 : BitVec 32 := 32#32
  let c0_i32_399 : BitVec 32 := 0#32
  let v689 : BitVec 1 := Scalar.cmpi .eq c32_i32_398 c0_i32_399
  let c1_i32_400 : BitVec 32 := 1#32
  let v690 : BitVec 32 := Scalar.select v689 c1_i32_400 c32_i32_398
  let v691 : BitVec 32 := Scalar.remsi v688 v690
  let c0_i32_402 : BitVec 32 := 0#32
  let v693 : BitVec 1 := Scalar.cmpi .slt v691 c0_i32_402
  let c0_i32_403 : BitVec 32 := 0#32
  let v694 : BitVec 1 := Scalar.cmpi .slt v690 c0_i32_403
  let v695 : BitVec 1 := Scalar.xori v693 v694
  let c0_i32_401 : BitVec 32 := 0#32
  let v692 : BitVec 1 := Scalar.cmpi .ne v691 c0_i32_401
  let v696 : BitVec 1 := Scalar.andi v695 v692
  let v697 : BitVec 32 := Scalar.addi v691 v690
  let v698 : BitVec 32 := Scalar.select v696 v697 v691
  let c1_i32_405 : BitVec 32 := 1#32
  let v700 : BitVec 32 := Scalar.muli v698 c1_i32_405
  let v701 : BitVec 32 := Scalar.addi c0_i32_406 v700
  v701.toNat
def k0_dev62 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_410 : BitVec 32 := 30#32
  let v709 : BitVec 32 := Scalar.addi v2 c30_i32_410
  let c32_i32_411 : BitVec 32 := 32#32
  let c0_i32_412 : BitVec 32 := 0#32
  let v710 : BitVec 1 := Scalar.cmpi .eq c32_i32_411 c0_i32_412
  let c1_i32_413 : BitVec 32 := 1#32
  let v711 : BitVec 32 := Scalar.select v710 c1_i32_413 c32_i32_411
  let v712 : BitVec 32 := Scalar.remsi v709 v711
  let c0_i32_415 : BitVec 32 := 0#32
  let v714 : BitVec 1 := Scalar.cmpi .slt v712 c0_i32_415
  let c0_i32_416 : BitVec 32 := 0#32
  let v715 : BitVec 1 := Scalar.cmpi .slt v711 c0_i32_416
  let v716 : BitVec 1 := Scalar.xori v714 v715
  let c0_i32_414 : BitVec 32 := 0#32
  let v713 : BitVec 1 := Scalar.cmpi .ne v712 c0_i32_414
  let v717 : BitVec 1 := Scalar.andi v716 v713
  let v718 : BitVec 32 := Scalar.addi v712 v711
  let v719 : BitVec 32 := Scalar.select v717 v718 v712
  let c1_i32_418 : BitVec 32 := 1#32
  let v721 : BitVec 32 := Scalar.muli v719 c1_i32_418
  let v722 : BitVec 32 := Scalar.addi c0_i32_419 v721
  v722.toNat
def k0_dev63 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_423 : BitVec 32 := 31#32
  let v730 : BitVec 32 := Scalar.addi v2 c31_i32_423
  let c32_i32_424 : BitVec 32 := 32#32
  let c0_i32_425 : BitVec 32 := 0#32
  let v731 : BitVec 1 := Scalar.cmpi .eq c32_i32_424 c0_i32_425
  let c1_i32_426 : BitVec 32 := 1#32
  let v732 : BitVec 32 := Scalar.select v731 c1_i32_426 c32_i32_424
  let v733 : BitVec 32 := Scalar.remsi v730 v732
  let c0_i32_428 : BitVec 32 := 0#32
  let v735 : BitVec 1 := Scalar.cmpi .slt v733 c0_i32_428
  let c0_i32_429 : BitVec 32 := 0#32
  let v736 : BitVec 1 := Scalar.cmpi .slt v732 c0_i32_429
  let v737 : BitVec 1 := Scalar.xori v735 v736
  let c0_i32_427 : BitVec 32 := 0#32
  let v734 : BitVec 1 := Scalar.cmpi .ne v733 c0_i32_427
  let v738 : BitVec 1 := Scalar.andi v737 v734
  let v739 : BitVec 32 := Scalar.addi v733 v732
  let v740 : BitVec 32 := Scalar.select v738 v739 v733
  let c1_i32_431 : BitVec 32 := 1#32
  let v742 : BitVec 32 := Scalar.muli v740 c1_i32_431
  let v743 : BitVec 32 := Scalar.addi c0_i32_432 v742
  v743.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_436 : BitVec 32 := 128#32
  let v751 : BitVec 32 := Scalar.muli v2 c128_i32_436
  let v752 : Index := Scalar.indexCast v751
  let c0 : Index := 0#32
  ![v752.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_437 : BitVec 32 := 128#32
  let v755 : BitVec 32 := Scalar.muli v2 c128_i32_437
  let v756 : Index := Scalar.indexCast v755
  let c0_438 : Index := 0#32
  ![v756.toNat, 0]
def k0_off7 (d0 : Dev nD) (c1_i32_439 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v760 : BitVec 32 := Scalar.subi v2 c1_i32_439
  let c32_i32_440 : BitVec 32 := 32#32
  let c0_i32_441 : BitVec 32 := 0#32
  let v761 : BitVec 1 := Scalar.cmpi .eq c32_i32_440 c0_i32_441
  let c1_i32_442 : BitVec 32 := 1#32
  let v762 : BitVec 32 := Scalar.select v761 c1_i32_442 c32_i32_440
  let v763 : BitVec 32 := Scalar.remsi v760 v762
  let c0_i32_444 : BitVec 32 := 0#32
  let v765 : BitVec 1 := Scalar.cmpi .slt v763 c0_i32_444
  let c0_i32_445 : BitVec 32 := 0#32
  let v766 : BitVec 1 := Scalar.cmpi .slt v762 c0_i32_445
  let v767 : BitVec 1 := Scalar.xori v765 v766
  let c0_i32_443 : BitVec 32 := 0#32
  let v764 : BitVec 1 := Scalar.cmpi .ne v763 c0_i32_443
  let v768 : BitVec 1 := Scalar.andi v767 v764
  let v769 : BitVec 32 := Scalar.addi v763 v762
  let v770 : BitVec 32 := Scalar.select v768 v769 v763
  ![v770.toNat]
def k0_off8 (d0 : Dev nD) (c1_i32_439 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v760 : BitVec 32 := Scalar.subi v2 c1_i32_439
  let c32_i32_440 : BitVec 32 := 32#32
  let c0_i32_441 : BitVec 32 := 0#32
  let v761 : BitVec 1 := Scalar.cmpi .eq c32_i32_440 c0_i32_441
  let c1_i32_442 : BitVec 32 := 1#32
  let v762 : BitVec 32 := Scalar.select v761 c1_i32_442 c32_i32_440
  let v763 : BitVec 32 := Scalar.remsi v760 v762
  let c0_i32_444 : BitVec 32 := 0#32
  let v765 : BitVec 1 := Scalar.cmpi .slt v763 c0_i32_444
  let c0_i32_445 : BitVec 32 := 0#32
  let v766 : BitVec 1 := Scalar.cmpi .slt v762 c0_i32_445
  let v767 : BitVec 1 := Scalar.xori v765 v766
  let c0_i32_443 : BitVec 32 := 0#32
  let v764 : BitVec 1 := Scalar.cmpi .ne v763 c0_i32_443
  let v768 : BitVec 1 := Scalar.andi v767 v764
  let v769 : BitVec 32 := Scalar.addi v763 v762
  let v770 : BitVec 32 := Scalar.select v768 v769 v763
  let c0_i32_448 : BitVec 32 := 0#32
  let c0_i32_449 : BitVec 32 := 0#32
  ![v770.toNat, 0, 0]
def k0_off9 (d0 : Dev nD) (c1_i32_439 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v760 : BitVec 32 := Scalar.subi v2 c1_i32_439
  let c32_i32_440 : BitVec 32 := 32#32
  let c0_i32_441 : BitVec 32 := 0#32
  let v761 : BitVec 1 := Scalar.cmpi .eq c32_i32_440 c0_i32_441
  let c1_i32_442 : BitVec 32 := 1#32
  let v762 : BitVec 32 := Scalar.select v761 c1_i32_442 c32_i32_440
  let v763 : BitVec 32 := Scalar.remsi v760 v762
  let c0_i32_444 : BitVec 32 := 0#32
  let v765 : BitVec 1 := Scalar.cmpi .slt v763 c0_i32_444
  let c0_i32_445 : BitVec 32 := 0#32
  let v766 : BitVec 1 := Scalar.cmpi .slt v762 c0_i32_445
  let v767 : BitVec 1 := Scalar.xori v765 v766
  let c0_i32_443 : BitVec 32 := 0#32
  let v764 : BitVec 1 := Scalar.cmpi .ne v763 c0_i32_443
  let v768 : BitVec 1 := Scalar.andi v767 v764
  let v769 : BitVec 32 := Scalar.addi v763 v762
  let v770 : BitVec 32 := Scalar.select v768 v769 v763
  let v778 : Index := Scalar.indexCast v770
  let c0_452 : Index := 0#32
  let c0_453 : Index := 0#32
  ![v778.toNat, 0, 0]
def k0_off10 (d0 : Dev nD) (c1_i32_439 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v760 : BitVec 32 := Scalar.subi v2 c1_i32_439
  let c32_i32_440 : BitVec 32 := 32#32
  let c0_i32_441 : BitVec 32 := 0#32
  let v761 : BitVec 1 := Scalar.cmpi .eq c32_i32_440 c0_i32_441
  let c1_i32_442 : BitVec 32 := 1#32
  let v762 : BitVec 32 := Scalar.select v761 c1_i32_442 c32_i32_440
  let v763 : BitVec 32 := Scalar.remsi v760 v762
  let c0_i32_444 : BitVec 32 := 0#32
  let v765 : BitVec 1 := Scalar.cmpi .slt v763 c0_i32_444
  let c0_i32_445 : BitVec 32 := 0#32
  let v766 : BitVec 1 := Scalar.cmpi .slt v762 c0_i32_445
  let v767 : BitVec 1 := Scalar.xori v765 v766
  let c0_i32_443 : BitVec 32 := 0#32
  let v764 : BitVec 1 := Scalar.cmpi .ne v763 c0_i32_443
  let v768 : BitVec 1 := Scalar.andi v767 v764
  let v769 : BitVec 32 := Scalar.addi v763 v762
  let v770 : BitVec 32 := Scalar.select v768 v769 v763
  let c128_i32_454 : BitVec 32 := 128#32
  let v781 : BitVec 32 := Scalar.muli v770 c128_i32_454
  let v782 : Index := Scalar.indexCast v781
  let c0_455 : Index := 0#32
  ![v782.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1373 : BitVec 32 := 8#32
  let v2132 : BitVec 32 := Scalar.remsi v2 c8_i32_1373
  let v2135 : Index := Scalar.indexCast v2132
  let c0_1375 : Index := 0#32
  ![v2135.toNat, 0]
def k0_off12 (d0 : Dev nD) (c1_i32_1383 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1373 : BitVec 32 := 8#32
  let v2132 : BitVec 32 := Scalar.remsi v2 c8_i32_1373
  let v2151 : BitVec 32 := Scalar.addi v2132 c1_i32_1383
  let c8_i32_1384 : BitVec 32 := 8#32
  let c0_i32_1385 : BitVec 32 := 0#32
  let v2152 : BitVec 1 := Scalar.cmpi .eq c8_i32_1384 c0_i32_1385
  let c1_i32_1386 : BitVec 32 := 1#32
  let v2153 : BitVec 32 := Scalar.select v2152 c1_i32_1386 c8_i32_1384
  let v2154 : BitVec 32 := Scalar.remsi v2151 v2153
  let c0_i32_1388 : BitVec 32 := 0#32
  let v2156 : BitVec 1 := Scalar.cmpi .slt v2154 c0_i32_1388
  let c0_i32_1389 : BitVec 32 := 0#32
  let v2157 : BitVec 1 := Scalar.cmpi .slt v2153 c0_i32_1389
  let v2158 : BitVec 1 := Scalar.xori v2156 v2157
  let c0_i32_1387 : BitVec 32 := 0#32
  let v2155 : BitVec 1 := Scalar.cmpi .ne v2154 c0_i32_1387
  let v2159 : BitVec 1 := Scalar.andi v2158 v2155
  let v2160 : BitVec 32 := Scalar.addi v2154 v2153
  let v2161 : BitVec 32 := Scalar.select v2159 v2160 v2154
  ![v2161.toNat]
def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1373 : BitVec 32 := 8#32
  let v2132 : BitVec 32 := Scalar.remsi v2 c8_i32_1373
  ![v2132.toNat]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1373 : BitVec 32 := 8#32
  let v2132 : BitVec 32 := Scalar.remsi v2 c8_i32_1373
  let c0_i32_1392 : BitVec 32 := 0#32
  ![v2132.toNat, 0]
def k0_dev64 (d0 : Dev nD) : Nat :=
  let c0_i32_1391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c1_i32_1376 : BitVec 32 := 1#32
  let v2139 : BitVec 32 := Scalar.addi v2132 c1_i32_1376
  let c8_i32_1377 : BitVec 32 := 8#32
  let c0_i32_1378 : BitVec 32 := 0#32
  let v2140 : BitVec 1 := Scalar.cmpi .eq c8_i32_1377 c0_i32_1378
  let c1_i32_1379 : BitVec 32 := 1#32
  let v2141 : BitVec 32 := Scalar.select v2140 c1_i32_1379 c8_i32_1377
  let v2142 : BitVec 32 := Scalar.remsi v2139 v2141
  let c0_i32_1381 : BitVec 32 := 0#32
  let v2144 : BitVec 1 := Scalar.cmpi .slt v2142 c0_i32_1381
  let c0_i32_1382 : BitVec 32 := 0#32
  let v2145 : BitVec 1 := Scalar.cmpi .slt v2141 c0_i32_1382
  let v2146 : BitVec 1 := Scalar.xori v2144 v2145
  let c0_i32_1380 : BitVec 32 := 0#32
  let v2143 : BitVec 1 := Scalar.cmpi .ne v2142 c0_i32_1380
  let v2147 : BitVec 1 := Scalar.andi v2146 v2143
  let v2148 : BitVec 32 := Scalar.addi v2142 v2141
  let v2149 : BitVec 32 := Scalar.select v2147 v2148 v2142
  let v2150 : BitVec 32 := Scalar.addi v2131 v2149
  let c1_i32_1390 : BitVec 32 := 1#32
  let v2162 : BitVec 32 := Scalar.muli v2150 c1_i32_1390
  let v2163 : BitVec 32 := Scalar.addi c0_i32_1391 v2162
  v2163.toNat
def k0_dev65 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c2_i32_1394 : BitVec 32 := 2#32
  let v2170 : BitVec 32 := Scalar.addi v2132 c2_i32_1394
  let c8_i32_1395 : BitVec 32 := 8#32
  let c0_i32_1396 : BitVec 32 := 0#32
  let v2171 : BitVec 1 := Scalar.cmpi .eq c8_i32_1395 c0_i32_1396
  let c1_i32_1397 : BitVec 32 := 1#32
  let v2172 : BitVec 32 := Scalar.select v2171 c1_i32_1397 c8_i32_1395
  let v2173 : BitVec 32 := Scalar.remsi v2170 v2172
  let c0_i32_1399 : BitVec 32 := 0#32
  let v2175 : BitVec 1 := Scalar.cmpi .slt v2173 c0_i32_1399
  let c0_i32_1400 : BitVec 32 := 0#32
  let v2176 : BitVec 1 := Scalar.cmpi .slt v2172 c0_i32_1400
  let v2177 : BitVec 1 := Scalar.xori v2175 v2176
  let c0_i32_1398 : BitVec 32 := 0#32
  let v2174 : BitVec 1 := Scalar.cmpi .ne v2173 c0_i32_1398
  let v2178 : BitVec 1 := Scalar.andi v2177 v2174
  let v2179 : BitVec 32 := Scalar.addi v2173 v2172
  let v2180 : BitVec 32 := Scalar.select v2178 v2179 v2173
  let v2181 : BitVec 32 := Scalar.addi v2131 v2180
  let c1_i32_1408 : BitVec 32 := 1#32
  let v2193 : BitVec 32 := Scalar.muli v2181 c1_i32_1408
  let v2194 : BitVec 32 := Scalar.addi c0_i32_1409 v2193
  v2194.toNat
def k0_dev66 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c3_i32_1412 : BitVec 32 := 3#32
  let v2201 : BitVec 32 := Scalar.addi v2132 c3_i32_1412
  let c8_i32_1413 : BitVec 32 := 8#32
  let c0_i32_1414 : BitVec 32 := 0#32
  let v2202 : BitVec 1 := Scalar.cmpi .eq c8_i32_1413 c0_i32_1414
  let c1_i32_1415 : BitVec 32 := 1#32
  let v2203 : BitVec 32 := Scalar.select v2202 c1_i32_1415 c8_i32_1413
  let v2204 : BitVec 32 := Scalar.remsi v2201 v2203
  let c0_i32_1417 : BitVec 32 := 0#32
  let v2206 : BitVec 1 := Scalar.cmpi .slt v2204 c0_i32_1417
  let c0_i32_1418 : BitVec 32 := 0#32
  let v2207 : BitVec 1 := Scalar.cmpi .slt v2203 c0_i32_1418
  let v2208 : BitVec 1 := Scalar.xori v2206 v2207
  let c0_i32_1416 : BitVec 32 := 0#32
  let v2205 : BitVec 1 := Scalar.cmpi .ne v2204 c0_i32_1416
  let v2209 : BitVec 1 := Scalar.andi v2208 v2205
  let v2210 : BitVec 32 := Scalar.addi v2204 v2203
  let v2211 : BitVec 32 := Scalar.select v2209 v2210 v2204
  let v2212 : BitVec 32 := Scalar.addi v2131 v2211
  let c1_i32_1426 : BitVec 32 := 1#32
  let v2224 : BitVec 32 := Scalar.muli v2212 c1_i32_1426
  let v2225 : BitVec 32 := Scalar.addi c0_i32_1427 v2224
  v2225.toNat
def k0_dev67 (d0 : Dev nD) : Nat :=
  let c0_i32_1445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c4_i32_1430 : BitVec 32 := 4#32
  let v2232 : BitVec 32 := Scalar.addi v2132 c4_i32_1430
  let c8_i32_1431 : BitVec 32 := 8#32
  let c0_i32_1432 : BitVec 32 := 0#32
  let v2233 : BitVec 1 := Scalar.cmpi .eq c8_i32_1431 c0_i32_1432
  let c1_i32_1433 : BitVec 32 := 1#32
  let v2234 : BitVec 32 := Scalar.select v2233 c1_i32_1433 c8_i32_1431
  let v2235 : BitVec 32 := Scalar.remsi v2232 v2234
  let c0_i32_1435 : BitVec 32 := 0#32
  let v2237 : BitVec 1 := Scalar.cmpi .slt v2235 c0_i32_1435
  let c0_i32_1436 : BitVec 32 := 0#32
  let v2238 : BitVec 1 := Scalar.cmpi .slt v2234 c0_i32_1436
  let v2239 : BitVec 1 := Scalar.xori v2237 v2238
  let c0_i32_1434 : BitVec 32 := 0#32
  let v2236 : BitVec 1 := Scalar.cmpi .ne v2235 c0_i32_1434
  let v2240 : BitVec 1 := Scalar.andi v2239 v2236
  let v2241 : BitVec 32 := Scalar.addi v2235 v2234
  let v2242 : BitVec 32 := Scalar.select v2240 v2241 v2235
  let v2243 : BitVec 32 := Scalar.addi v2131 v2242
  let c1_i32_1444 : BitVec 32 := 1#32
  let v2255 : BitVec 32 := Scalar.muli v2243 c1_i32_1444
  let v2256 : BitVec 32 := Scalar.addi c0_i32_1445 v2255
  v2256.toNat
def k0_dev68 (d0 : Dev nD) : Nat :=
  let c0_i32_1463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c5_i32_1448 : BitVec 32 := 5#32
  let v2263 : BitVec 32 := Scalar.addi v2132 c5_i32_1448
  let c8_i32_1449 : BitVec 32 := 8#32
  let c0_i32_1450 : BitVec 32 := 0#32
  let v2264 : BitVec 1 := Scalar.cmpi .eq c8_i32_1449 c0_i32_1450
  let c1_i32_1451 : BitVec 32 := 1#32
  let v2265 : BitVec 32 := Scalar.select v2264 c1_i32_1451 c8_i32_1449
  let v2266 : BitVec 32 := Scalar.remsi v2263 v2265
  let c0_i32_1453 : BitVec 32 := 0#32
  let v2268 : BitVec 1 := Scalar.cmpi .slt v2266 c0_i32_1453
  let c0_i32_1454 : BitVec 32 := 0#32
  let v2269 : BitVec 1 := Scalar.cmpi .slt v2265 c0_i32_1454
  let v2270 : BitVec 1 := Scalar.xori v2268 v2269
  let c0_i32_1452 : BitVec 32 := 0#32
  let v2267 : BitVec 1 := Scalar.cmpi .ne v2266 c0_i32_1452
  let v2271 : BitVec 1 := Scalar.andi v2270 v2267
  let v2272 : BitVec 32 := Scalar.addi v2266 v2265
  let v2273 : BitVec 32 := Scalar.select v2271 v2272 v2266
  let v2274 : BitVec 32 := Scalar.addi v2131 v2273
  let c1_i32_1462 : BitVec 32 := 1#32
  let v2286 : BitVec 32 := Scalar.muli v2274 c1_i32_1462
  let v2287 : BitVec 32 := Scalar.addi c0_i32_1463 v2286
  v2287.toNat
def k0_dev69 (d0 : Dev nD) : Nat :=
  let c0_i32_1481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c6_i32_1466 : BitVec 32 := 6#32
  let v2294 : BitVec 32 := Scalar.addi v2132 c6_i32_1466
  let c8_i32_1467 : BitVec 32 := 8#32
  let c0_i32_1468 : BitVec 32 := 0#32
  let v2295 : BitVec 1 := Scalar.cmpi .eq c8_i32_1467 c0_i32_1468
  let c1_i32_1469 : BitVec 32 := 1#32
  let v2296 : BitVec 32 := Scalar.select v2295 c1_i32_1469 c8_i32_1467
  let v2297 : BitVec 32 := Scalar.remsi v2294 v2296
  let c0_i32_1471 : BitVec 32 := 0#32
  let v2299 : BitVec 1 := Scalar.cmpi .slt v2297 c0_i32_1471
  let c0_i32_1472 : BitVec 32 := 0#32
  let v2300 : BitVec 1 := Scalar.cmpi .slt v2296 c0_i32_1472
  let v2301 : BitVec 1 := Scalar.xori v2299 v2300
  let c0_i32_1470 : BitVec 32 := 0#32
  let v2298 : BitVec 1 := Scalar.cmpi .ne v2297 c0_i32_1470
  let v2302 : BitVec 1 := Scalar.andi v2301 v2298
  let v2303 : BitVec 32 := Scalar.addi v2297 v2296
  let v2304 : BitVec 32 := Scalar.select v2302 v2303 v2297
  let v2305 : BitVec 32 := Scalar.addi v2131 v2304
  let c1_i32_1480 : BitVec 32 := 1#32
  let v2317 : BitVec 32 := Scalar.muli v2305 c1_i32_1480
  let v2318 : BitVec 32 := Scalar.addi c0_i32_1481 v2317
  v2318.toNat
def k0_dev70 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1371 : BitVec 32 := 8#32
  let v2130 : BitVec 32 := Scalar.divsi v2 c8_i32_1371
  let c8_i32_1372 : BitVec 32 := 8#32
  let v2131 : BitVec 32 := Scalar.muli v2130 c8_i32_1372
  let c8_i32_1373 : BitVec 32 := 8#32
  let v2132 : BitVec 32 := Scalar.remsi v2 c8_i32_1373
  let c7_i32_1484 : BitVec 32 := 7#32
  let v2325 : BitVec 32 := Scalar.addi v2132 c7_i32_1484
  let c8_i32_1485 : BitVec 32 := 8#32
  let c0_i32_1486 : BitVec 32 := 0#32
  let v2326 : BitVec 1 := Scalar.cmpi .eq c8_i32_1485 c0_i32_1486
  let c1_i32_1487 : BitVec 32 := 1#32
  let v2327 : BitVec 32 := Scalar.select v2326 c1_i32_1487 c8_i32_1485
  let v2328 : BitVec 32 := Scalar.remsi v2325 v2327
  let c0_i32_1489 : BitVec 32 := 0#32
  let v2330 : BitVec 1 := Scalar.cmpi .slt v2328 c0_i32_1489
  let c0_i32_1490 : BitVec 32 := 0#32
  let v2331 : BitVec 1 := Scalar.cmpi .slt v2327 c0_i32_1490
  let v2332 : BitVec 1 := Scalar.xori v2330 v2331
  let c0_i32_1488 : BitVec 32 := 0#32
  let v2329 : BitVec 1 := Scalar.cmpi .ne v2328 c0_i32_1488
  let v2333 : BitVec 1 := Scalar.andi v2332 v2329
  let v2334 : BitVec 32 := Scalar.addi v2328 v2327
  let v2335 : BitVec 32 := Scalar.select v2333 v2334 v2328
  let v2336 : BitVec 32 := Scalar.addi v2131 v2335
  let c1_i32_1498 : BitVec 32 := 1#32
  let v2348 : BitVec 32 := Scalar.muli v2336 c1_i32_1498
  let v2349 : BitVec 32 := Scalar.addi c0_i32_1499 v2348
  v2349.toNat
def k0_off15 (d0 : Dev nD) (c1_i32_1502 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1373 : BitVec 32 := 8#32
  let v2132 : BitVec 32 := Scalar.remsi v2 c8_i32_1373
  let v2356 : BitVec 32 := Scalar.subi v2132 c1_i32_1502
  let c8_i32_1503 : BitVec 32 := 8#32
  let c0_i32_1504 : BitVec 32 := 0#32
  let v2357 : BitVec 1 := Scalar.cmpi .eq c8_i32_1503 c0_i32_1504
  let c1_i32_1505 : BitVec 32 := 1#32
  let v2358 : BitVec 32 := Scalar.select v2357 c1_i32_1505 c8_i32_1503
  let v2359 : BitVec 32 := Scalar.remsi v2356 v2358
  let c0_i32_1507 : BitVec 32 := 0#32
  let v2361 : BitVec 1 := Scalar.cmpi .slt v2359 c0_i32_1507
  let c0_i32_1508 : BitVec 32 := 0#32
  let v2362 : BitVec 1 := Scalar.cmpi .slt v2358 c0_i32_1508
  let v2363 : BitVec 1 := Scalar.xori v2361 v2362
  let c0_i32_1506 : BitVec 32 := 0#32
  let v2360 : BitVec 1 := Scalar.cmpi .ne v2359 c0_i32_1506
  let v2364 : BitVec 1 := Scalar.andi v2363 v2360
  let v2365 : BitVec 32 := Scalar.addi v2359 v2358
  let v2366 : BitVec 32 := Scalar.select v2364 v2365 v2359
  ![v2366.toNat]
def k0_off16 (d0 : Dev nD) (c1_i32_1502 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1373 : BitVec 32 := 8#32
  let v2132 : BitVec 32 := Scalar.remsi v2 c8_i32_1373
  let v2356 : BitVec 32 := Scalar.subi v2132 c1_i32_1502
  let c8_i32_1503 : BitVec 32 := 8#32
  let c0_i32_1504 : BitVec 32 := 0#32
  let v2357 : BitVec 1 := Scalar.cmpi .eq c8_i32_1503 c0_i32_1504
  let c1_i32_1505 : BitVec 32 := 1#32
  let v2358 : BitVec 32 := Scalar.select v2357 c1_i32_1505 c8_i32_1503
  let v2359 : BitVec 32 := Scalar.remsi v2356 v2358
  let c0_i32_1507 : BitVec 32 := 0#32
  let v2361 : BitVec 1 := Scalar.cmpi .slt v2359 c0_i32_1507
  let c0_i32_1508 : BitVec 32 := 0#32
  let v2362 : BitVec 1 := Scalar.cmpi .slt v2358 c0_i32_1508
  let v2363 : BitVec 1 := Scalar.xori v2361 v2362
  let c0_i32_1506 : BitVec 32 := 0#32
  let v2360 : BitVec 1 := Scalar.cmpi .ne v2359 c0_i32_1506
  let v2364 : BitVec 1 := Scalar.andi v2363 v2360
  let v2365 : BitVec 32 := Scalar.addi v2359 v2358
  let v2366 : BitVec 32 := Scalar.select v2364 v2365 v2359
  let c0_i32_1511 : BitVec 32 := 0#32
  ![v2366.toNat, 0]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1374 : BitVec 32 := 8#32
  let v2133 : BitVec 32 := Scalar.divsi v2 c8_i32_1374
  let v2481 : Index := Scalar.indexCast v2133
  let c0_1582 : Index := 0#32
  ![v2481.toNat, 0]
def k0_off18 (d0 : Dev nD) (c1_i32_1590 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1374 : BitVec 32 := 8#32
  let v2133 : BitVec 32 := Scalar.divsi v2 c8_i32_1374
  let v2496 : BitVec 32 := Scalar.addi v2133 c1_i32_1590
  let c4_i32_1591 : BitVec 32 := 4#32
  let c0_i32_1592 : BitVec 32 := 0#32
  let v2497 : BitVec 1 := Scalar.cmpi .eq c4_i32_1591 c0_i32_1592
  let c1_i32_1593 : BitVec 32 := 1#32
  let v2498 : BitVec 32 := Scalar.select v2497 c1_i32_1593 c4_i32_1591
  let v2499 : BitVec 32 := Scalar.remsi v2496 v2498
  let c0_i32_1595 : BitVec 32 := 0#32
  let v2501 : BitVec 1 := Scalar.cmpi .slt v2499 c0_i32_1595
  let c0_i32_1596 : BitVec 32 := 0#32
  let v2502 : BitVec 1 := Scalar.cmpi .slt v2498 c0_i32_1596
  let v2503 : BitVec 1 := Scalar.xori v2501 v2502
  let c0_i32_1594 : BitVec 32 := 0#32
  let v2500 : BitVec 1 := Scalar.cmpi .ne v2499 c0_i32_1594
  let v2504 : BitVec 1 := Scalar.andi v2503 v2500
  let v2505 : BitVec 32 := Scalar.addi v2499 v2498
  let v2506 : BitVec 32 := Scalar.select v2504 v2505 v2499
  ![v2506.toNat]
def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1374 : BitVec 32 := 8#32
  let v2133 : BitVec 32 := Scalar.divsi v2 c8_i32_1374
  ![v2133.toNat]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1374 : BitVec 32 := 8#32
  let v2133 : BitVec 32 := Scalar.divsi v2 c8_i32_1374
  let c0_i32_1599 : BitVec 32 := 0#32
  ![v2133.toNat, 0]
def k0_dev71 (d0 : Dev nD) : Nat :=
  let c0_i32_1598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1583 : BitVec 32 := 8#32
  let v2485 : BitVec 32 := Scalar.addi v2 c8_i32_1583
  let c32_i32_1584 : BitVec 32 := 32#32
  let c0_i32_1585 : BitVec 32 := 0#32
  let v2486 : BitVec 1 := Scalar.cmpi .eq c32_i32_1584 c0_i32_1585
  let c1_i32_1586 : BitVec 32 := 1#32
  let v2487 : BitVec 32 := Scalar.select v2486 c1_i32_1586 c32_i32_1584
  let v2488 : BitVec 32 := Scalar.remsi v2485 v2487
  let c0_i32_1588 : BitVec 32 := 0#32
  let v2490 : BitVec 1 := Scalar.cmpi .slt v2488 c0_i32_1588
  let c0_i32_1589 : BitVec 32 := 0#32
  let v2491 : BitVec 1 := Scalar.cmpi .slt v2487 c0_i32_1589
  let v2492 : BitVec 1 := Scalar.xori v2490 v2491
  let c0_i32_1587 : BitVec 32 := 0#32
  let v2489 : BitVec 1 := Scalar.cmpi .ne v2488 c0_i32_1587
  let v2493 : BitVec 1 := Scalar.andi v2492 v2489
  let v2494 : BitVec 32 := Scalar.addi v2488 v2487
  let v2495 : BitVec 32 := Scalar.select v2493 v2494 v2488
  let c1_i32_1597 : BitVec 32 := 1#32
  let v2507 : BitVec 32 := Scalar.muli v2495 c1_i32_1597
  let v2508 : BitVec 32 := Scalar.addi c0_i32_1598 v2507
  v2508.toNat
def k0_dev72 (d0 : Dev nD) : Nat :=
  let c0_i32_1616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1601 : BitVec 32 := 16#32
  let v2515 : BitVec 32 := Scalar.addi v2 c16_i32_1601
  let c32_i32_1602 : BitVec 32 := 32#32
  let c0_i32_1603 : BitVec 32 := 0#32
  let v2516 : BitVec 1 := Scalar.cmpi .eq c32_i32_1602 c0_i32_1603
  let c1_i32_1604 : BitVec 32 := 1#32
  let v2517 : BitVec 32 := Scalar.select v2516 c1_i32_1604 c32_i32_1602
  let v2518 : BitVec 32 := Scalar.remsi v2515 v2517
  let c0_i32_1606 : BitVec 32 := 0#32
  let v2520 : BitVec 1 := Scalar.cmpi .slt v2518 c0_i32_1606
  let c0_i32_1607 : BitVec 32 := 0#32
  let v2521 : BitVec 1 := Scalar.cmpi .slt v2517 c0_i32_1607
  let v2522 : BitVec 1 := Scalar.xori v2520 v2521
  let c0_i32_1605 : BitVec 32 := 0#32
  let v2519 : BitVec 1 := Scalar.cmpi .ne v2518 c0_i32_1605
  let v2523 : BitVec 1 := Scalar.andi v2522 v2519
  let v2524 : BitVec 32 := Scalar.addi v2518 v2517
  let v2525 : BitVec 32 := Scalar.select v2523 v2524 v2518
  let c1_i32_1615 : BitVec 32 := 1#32
  let v2537 : BitVec 32 := Scalar.muli v2525 c1_i32_1615
  let v2538 : BitVec 32 := Scalar.addi c0_i32_1616 v2537
  v2538.toNat
def k0_dev73 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1619 : BitVec 32 := 24#32
  let v2545 : BitVec 32 := Scalar.addi v2 c24_i32_1619
  let c32_i32_1620 : BitVec 32 := 32#32
  let c0_i32_1621 : BitVec 32 := 0#32
  let v2546 : BitVec 1 := Scalar.cmpi .eq c32_i32_1620 c0_i32_1621
  let c1_i32_1622 : BitVec 32 := 1#32
  let v2547 : BitVec 32 := Scalar.select v2546 c1_i32_1622 c32_i32_1620
  let v2548 : BitVec 32 := Scalar.remsi v2545 v2547
  let c0_i32_1624 : BitVec 32 := 0#32
  let v2550 : BitVec 1 := Scalar.cmpi .slt v2548 c0_i32_1624
  let c0_i32_1625 : BitVec 32 := 0#32
  let v2551 : BitVec 1 := Scalar.cmpi .slt v2547 c0_i32_1625
  let v2552 : BitVec 1 := Scalar.xori v2550 v2551
  let c0_i32_1623 : BitVec 32 := 0#32
  let v2549 : BitVec 1 := Scalar.cmpi .ne v2548 c0_i32_1623
  let v2553 : BitVec 1 := Scalar.andi v2552 v2549
  let v2554 : BitVec 32 := Scalar.addi v2548 v2547
  let v2555 : BitVec 32 := Scalar.select v2553 v2554 v2548
  let c1_i32_1633 : BitVec 32 := 1#32
  let v2567 : BitVec 32 := Scalar.muli v2555 c1_i32_1633
  let v2568 : BitVec 32 := Scalar.addi c0_i32_1634 v2567
  v2568.toNat
def k0_off21 (d0 : Dev nD) (c1_i32_1637 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1374 : BitVec 32 := 8#32
  let v2133 : BitVec 32 := Scalar.divsi v2 c8_i32_1374
  let v2575 : BitVec 32 := Scalar.subi v2133 c1_i32_1637
  let c4_i32_1638 : BitVec 32 := 4#32
  let c0_i32_1639 : BitVec 32 := 0#32
  let v2576 : BitVec 1 := Scalar.cmpi .eq c4_i32_1638 c0_i32_1639
  let c1_i32_1640 : BitVec 32 := 1#32
  let v2577 : BitVec 32 := Scalar.select v2576 c1_i32_1640 c4_i32_1638
  let v2578 : BitVec 32 := Scalar.remsi v2575 v2577
  let c0_i32_1642 : BitVec 32 := 0#32
  let v2580 : BitVec 1 := Scalar.cmpi .slt v2578 c0_i32_1642
  let c0_i32_1643 : BitVec 32 := 0#32
  let v2581 : BitVec 1 := Scalar.cmpi .slt v2577 c0_i32_1643
  let v2582 : BitVec 1 := Scalar.xori v2580 v2581
  let c0_i32_1641 : BitVec 32 := 0#32
  let v2579 : BitVec 1 := Scalar.cmpi .ne v2578 c0_i32_1641
  let v2583 : BitVec 1 := Scalar.andi v2582 v2579
  let v2584 : BitVec 32 := Scalar.addi v2578 v2577
  let v2585 : BitVec 32 := Scalar.select v2583 v2584 v2578
  ![v2585.toNat]
def k0_off22 (d0 : Dev nD) (c1_i32_1637 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1374 : BitVec 32 := 8#32
  let v2133 : BitVec 32 := Scalar.divsi v2 c8_i32_1374
  let v2575 : BitVec 32 := Scalar.subi v2133 c1_i32_1637
  let c4_i32_1638 : BitVec 32 := 4#32
  let c0_i32_1639 : BitVec 32 := 0#32
  let v2576 : BitVec 1 := Scalar.cmpi .eq c4_i32_1638 c0_i32_1639
  let c1_i32_1640 : BitVec 32 := 1#32
  let v2577 : BitVec 32 := Scalar.select v2576 c1_i32_1640 c4_i32_1638
  let v2578 : BitVec 32 := Scalar.remsi v2575 v2577
  let c0_i32_1642 : BitVec 32 := 0#32
  let v2580 : BitVec 1 := Scalar.cmpi .slt v2578 c0_i32_1642
  let c0_i32_1643 : BitVec 32 := 0#32
  let v2581 : BitVec 1 := Scalar.cmpi .slt v2577 c0_i32_1643
  let v2582 : BitVec 1 := Scalar.xori v2580 v2581
  let c0_i32_1641 : BitVec 32 := 0#32
  let v2579 : BitVec 1 := Scalar.cmpi .ne v2578 c0_i32_1641
  let v2583 : BitVec 1 := Scalar.andi v2582 v2579
  let v2584 : BitVec 32 := Scalar.addi v2578 v2577
  let v2585 : BitVec 32 := Scalar.select v2583 v2584 v2578
  let c0_i32_1646 : BitVec 32 := 0#32
  ![v2585.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Program.lean ====
module

public import proofs.«01_k».proof.Proof.Gen.KernelIdeal.Skeleton
public import Idealize.ShloMosaic.Lib.Pipeline.Regions

@[expose] public section

noncomputable section

namespace Cert.A2A

open Idealize.ShloMosaic Idealize.SL.Sem
open Cert.KernelIdeal Cert.KernelIdeal.Gen

variable {F : FTy → Type} [FloatOps F]

/-- The programs a core runs inside the kernel. -/
abbrev CoreProg (F : FTy → Type) (α : Type) : Type 1 := Prog (TpuEff nD τ sig (Elt F) Λ₀ .tc) α

/-- The barrier semaphore of the collective. -/
abbrev barS : Sem sig := (SemArray.scalar (sig.barrier 0 rfl) : Sems sig S_).sem

/-! ## The destinations -/

/-- Where the `r`-th copy of the all-to-all goes. -/
def a2aDev (r : Fin 31) (d : Dev nD) : Dev nD :=
  (![⟨k0_dev33 d, k0_dev33_lt d⟩, ⟨k0_dev34 d, k0_dev34_lt d⟩, ⟨k0_dev35 d, k0_dev35_lt d⟩, ⟨k0_dev36 d, k0_dev36_lt d⟩,
    ⟨k0_dev37 d, k0_dev37_lt d⟩, ⟨k0_dev38 d, k0_dev38_lt d⟩, ⟨k0_dev39 d, k0_dev39_lt d⟩, ⟨k0_dev40 d, k0_dev40_lt d⟩,
    ⟨k0_dev41 d, k0_dev41_lt d⟩, ⟨k0_dev42 d, k0_dev42_lt d⟩, ⟨k0_dev43 d, k0_dev43_lt d⟩, ⟨k0_dev44 d, k0_dev44_lt d⟩,
    ⟨k0_dev45 d, k0_dev45_lt d⟩, ⟨k0_dev46 d, k0_dev46_lt d⟩, ⟨k0_dev47 d, k0_dev47_lt d⟩, ⟨k0_dev48 d, k0_dev48_lt d⟩,
    ⟨k0_dev49 d, k0_dev49_lt d⟩, ⟨k0_dev50 d, k0_dev50_lt d⟩, ⟨k0_dev51 d, k0_dev51_lt d⟩, ⟨k0_dev52 d, k0_dev52_lt d⟩,
    ⟨k0_dev53 d, k0_dev53_lt d⟩, ⟨k0_dev54 d, k0_dev54_lt d⟩, ⟨k0_dev55 d, k0_dev55_lt d⟩, ⟨k0_dev56 d, k0_dev56_lt d⟩,
    ⟨k0_dev57 d, k0_dev57_lt d⟩, ⟨k0_dev58 d, k0_dev58_lt d⟩, ⟨k0_dev59 d, k0_dev59_lt d⟩, ⟨k0_dev60 d, k0_dev60_lt d⟩,
    ⟨k0_dev61 d, k0_dev61_lt d⟩, ⟨k0_dev62 d, k0_dev62_lt d⟩, ⟨k0_dev63 d, k0_dev63_lt d⟩] : Fin 31 → Dev nD) r

/-- Where the `r`-th copy of the first maximum exchange goes. -/
def am1Dev (r : Fin 7) (d : Dev nD) : Dev nD :=
  (![⟨k0_dev64 d, k0_dev64_lt d⟩, ⟨k0_dev65 d, k0_dev65_lt d⟩, ⟨k0_dev66 d, k0_dev66_lt d⟩, ⟨k0_dev67 d, k0_dev67_lt d⟩,
    ⟨k0_dev68 d, k0_dev68_lt d⟩, ⟨k0_dev69 d, k0_dev69_lt d⟩, ⟨k0_dev70 d, k0_dev70_lt d⟩] : Fin 7 → Dev nD) r

/-- Where the `r`-th copy of the second maximum exchange goes. -/
def am2Dev (r : Fin 3) (d : Dev nD) : Dev nD :=
  (![⟨k0_dev71 d, k0_dev71_lt d⟩, ⟨k0_dev72 d, k0_dev72_lt d⟩, ⟨k0_dev73 d, k0_dev73_lt d⟩] : Fin 3 → Dev nD) r

/-- The word the program writes for step `r` of an exchange. -/
abbrev stepW (r : ℕ) : BitVec 32 := BitVec.ofNat 32 (1 + r)

/-! ## The operands, of any six buffers and six semaphore arrays -/

section Operands

variable (arg0 : Memref sig .tc .vmem S4096x128 .f32) (arg1 : Memref sig .tc .vmem S4096x2048 .f32)
  (arg2 : Memref sig .tc .vmem S128x2048 .f32) (arg3 : Memref sig .tc .vmem S32x128x128 .f32)
  (arg4 : Memref sig .tc .vmem S8x128 .f32) (arg5 : Memref sig .tc .vmem S4x128 .f32)
  (arg6 : DmaSems sig S32) (arg7 : DmaSems sig S32) (arg8 : DmaSems sig S8) (arg9 : DmaSems sig S8)
  (arg10 : DmaSems sig S4) (arg11 : DmaSems sig S4)

/-- The rows of `x` that step `r` sends. -/
abbrev xRows (d : Dev nD) (r : Fin 31) : Memref sig .tc .vmem S128x128 .f32 :=
  arg0.slice (Rect.unit (s := S4096x128) (k0_off4 d (stepW r)) S128x128.size (k0_off4_inb d r)) (fun _ => rfl)

/-- The first rows of `x`, whose size a receive wait counts. -/
abbrev xTop : Memref sig .tc .vmem S128x128 .f32 :=
  arg0.slice (Rect.unit (s := S4096x128) ![0, 0] S128x128.size inb_S4096x128_S128x128_0_0) (fun _ => rfl)

/-- The slot of the gather buffer named after the sender. -/
abbrev mySlot (d : Dev nD) : Memref sig .tc .vmem S128x128 .f32 :=
  (arg3.slice (Rect.unit (s := S32x128x128) (k0_off3 d) S1x128x128.size (k0_off3_inb d)) (fun _ => rfl)).squeeze
    S128x128 squeezes_S1x128x128_S128x128

/-- The slot step `r` receives into. -/
abbrev inSlot (d : Dev nD) (r : Fin 31) : Memref sig .tc .vmem S128x128 .f32 :=
  (arg3.slice (Rect.unit (s := S32x128x128) (k0_off8 d (stepW r)) S1x128x128.size (k0_off8_inb d r)) (fun _ => rfl)).squeeze
    S128x128 squeezes_S1x128x128_S128x128

/-- The semaphore of step `r`'s copy at its sender; -/
abbrev xSendS (d : Dev nD) (r : Fin 31) : DmaSem sig :=
  ((arg6.slice (Rect.unit (s := S32) (k0_off1 d (stepW r)) S1.size (k0_off1_inb d r))).squeeze S_ squeezes_S1_S_).sem

/-- the one its landing counts at the target; -/
abbrev xRecvS (d : Dev nD) : DmaSem sig :=
  ((arg7.slice (Rect.unit (s := S32) (k0_off2 d) S1.size (k0_off2_inb d))).squeeze S_ squeezes_S1_S_).sem

/-- and the one step `r` waits at. -/
abbrev xInS (d : Dev nD) (r : Fin 31) : DmaSem sig :=
  ((arg7.slice (Rect.unit (s := S32) (k0_off7 d (stepW r)) S1.size (k0_off7_inb d r))).squeeze S_ squeezes_S1_S_).sem

/-- The row of the first maximum buffer named after the device; -/
abbrev row1 (d : Dev nD) : Memref sig .tc .vmem S1x128 .f32 :=
  arg4.slice (Rect.unit (s := S8x128) (k0_off14 d) S1x128.size (k0_off14_inb d)) (fun _ => rfl)

/-- the row step `r` receives into. -/
abbrev inRow1 (d : Dev nD) (r : Fin 7) : Memref sig .tc .vmem S1x128 .f32 :=
  arg4.slice (Rect.unit (s := S8x128) (k0_off16 d (stepW r)) S1x128.size (k0_off16_inb d r)) (fun _ => rfl)

/-- The semaphore of a send of the first exchange, -/
abbrev send1S (d : Dev nD) (r : Fin 7) : DmaSem sig :=
  ((arg8.slice (Rect.unit (s := S8) (k0_off12 d (stepW r)) S1.size (k0_off12_inb d r))).squeeze S_ squeezes_S1_S_).sem

/-- that of its landing, at the sender's reckoning, -/
abbrev recv1S (d : Dev nD) : DmaSem sig :=
  ((arg9.slice (Rect.unit (s := S8) (k0_off13 d) S1.size (k0_off13_inb d))).squeeze S_ squeezes_S1_S_).sem

/-- and that of an arrival. -/
abbrev in1S (d : Dev nD) (r : Fin 7) : DmaSem sig :=
  ((arg9.slice (Rect.unit (s := S8) (k0_off15 d (stepW r)) S1.size (k0_off15_inb d r))).squeeze S_ squeezes_S1_S_).sem

/-- The row of the second maximum buffer named after the device's plane; -/
abbrev row2 (d : Dev nD) : Memref sig .tc .vmem S1x128 .f32 :=
  arg5.slice (Rect.unit (s := S4x128) (k0_off20 d) S1x128.size (k0_off20_inb d)) (fun _ => rfl)

/-- the row step `r` receives into. -/
abbrev inRow2 (d : Dev nD) (r : Fin 3) : Memref sig .tc .vmem S1x128 .f32 :=
  arg5.slice (Rect.unit (s := S4x128) (k0_off22 d (stepW r)) S1x128.size (k0_off22_inb d r)) (fun _ => rfl)

/-- The semaphore of a send of the second exchange, -/
abbrev send2S (d : Dev nD) (r : Fin 3) : DmaSem sig :=
  ((arg10.slice (Rect.unit (s := S4) (k0_off18 d (stepW r)) S1.size (k0_off18_inb d r))).squeeze S_ squeezes_S1_S_).sem

/-- that of its landing, at the sender's reckoning, -/
abbrev recv2S (d : Dev nD) : DmaSem sig :=
  ((arg11.slice (Rect.unit (s := S4) (k0_off19 d) S1.size (k0_off19_inb d))).squeeze S_ squeezes_S1_S_).sem

/-- and that of an arrival. -/
abbrev in2S (d : Dev nD) (r : Fin 3) : DmaSem sig :=
  ((arg11.slice (Rect.unit (s := S4) (k0_off21 d (stepW r)) S1.size (k0_off21_inb d r))).squeeze S_ squeezes_S1_S_).sem

/-! ## The steps -/

/-- One iteration of the barrier's loop: signal device `i`, unless it is the device itself. -/
def sigStep {α : Type} (d : Dev nD) (i : Fin 32) (K : CoreProg F α) : CoreProg F α :=
  (![if h : k0_cond1 d = 1#1 then semSignalWord (⟨k0_dev1, k0_dev1_lt d h⟩ : Dev nD) barS 1#32 >>= fun _ => K else K,
    if h : k0_cond2 d = 1#1 then semSignalWord (⟨k0_dev2, k0_dev2_lt d h⟩ : Dev nD) barS 1#32 >>= fun _ => K else K,
    if h : k0_cond3 d = 1#1 then semSignalWord (⟨k0_dev3, k0_dev3_lt d h⟩ : Dev nD) barS 1#32 >>= fun _ => K else K,
    if h : k0_cond4 d = 1#1 then semSignalWord (⟨k0_dev4, k0_dev4_lt d h⟩ : Dev nD) barS 1#32 >>= fun _ => K else K,
    if h : k0_cond5 d = 1#1 then semSignalWord (⟨k0_dev5, k0_dev5_lt d h⟩ : Dev nD) barS 1#32 >>= fun _ => K else K,
    if h : k0_cond6 d = 1#1 then semSignalWord (⟨k0_dev6, k0_dev6_lt d h⟩ : Dev nD) barS 1#32 >>= fun _ => K else K,
    if h : k0_cond7 d = 1#1 then semSignalWord (⟨k0_dev7, k0_dev7_lt d h⟩ : Dev nD) barS 1#32 >>= fun _ => K else K,
    if h : k0_cond8 d = 1#1 then semSignalWord (⟨k0_dev8, k0_dev8_lt d h⟩ : Dev nD) barS 1#32 >>= fun _ => K else K,
    if h : k0_cond9 d = 1#1 then semSignalWord (⟨k0_dev9, k0_dev9_lt d h⟩ : Dev nD) barS 1#32 >>= fun _ => K else K,
    if h : k0_cond10 d = 1#1 then semSignalWord (⟨k0_dev10, k0_dev10_lt d h⟩ : Dev nD) barS 1#32 >>= fun _ => K else K,
    if h : k0_cond11 d = 1#1 then semSignalWord (⟨k0_dev11, k0_dev11_lt d h⟩ : Dev nD) barS 1#32 >>= fun _ => K else K,
    if h : k0_cond12 d = 1#1 then semSignalWord (⟨k0_dev12, k0_dev12_lt d h⟩ : Dev nD) barS 1#32 >>= fun _ => K else K,
    if h : k0_cond13 d = 1#1 then semSignalWord (⟨k0_dev13, k0_dev13_lt d h⟩ : Dev nD) barS 1#32 >>= fun _ => K else K,
    if h : k0_cond14 d = 1#1 then semSignalWord (⟨k0_dev14, k0_dev14_lt d h⟩ : Dev nD) barS 1#32 >>= fun _ => K else K,
    if h : k0_cond15 d = 1#1 then semSignalWord (⟨k0_dev15, k0_dev15_lt d h⟩ : Dev nD) barS 1#32 >>= fun _ => K else K,
    if h : k0_cond16 d = 1#1 then semSignalWord (⟨k0_dev16, k0_dev16_lt d h⟩ : Dev nD) barS 1#32 >>= fun _ => K else K,
    if h : k0_cond17 d = 1#1 then semSignalWord (⟨k0_dev17, k0_dev17_lt d h⟩ : Dev nD) barS 1#32 >>= fun _ => K else K,
    if h : k0_cond18 d = 1#1 then semSignalWord (⟨k0_dev18, k0_dev18_lt d h⟩ : Dev nD) barS 1#32 >>= fun _ => K else K,
    if h : k0_cond19 d = 1#1 then semSignalWord (⟨k0_dev19, k0_dev19_lt d h⟩ : Dev nD) barS 1#32 >>= fun _ => K else K,
    if h : k0_cond20 d = 1#1 then semSignalWord (⟨k0_dev20, k0_dev20_lt d h⟩ : Dev nD) barS 1#32 >>= fun _ => K else K,
    if h : k0_cond21 d = 1#1 then semSignalWord (⟨k0_dev21, k0_dev21_lt d h⟩ : Dev nD) barS 1#32 >>= fun _ => K else K,
    if h : k0_cond22 d = 1#1 then semSignalWord (⟨k0_dev22, k0_dev22_lt d h⟩ : Dev nD) barS 1#32 >>= fun _ => K else K,
    if h : k0_cond23 d = 1#1 then semSignalWord (⟨k0_dev23, k0_dev23_lt d h⟩ : Dev nD) barS 1#32 >>= fun _ => K else K,
    if h : k0_cond24 d = 1#1 then semSignalWord (⟨k0_dev24, k0_dev24_lt d h⟩ : Dev nD) barS 1#32 >>= fun _ => K else K,
    if h : k0_cond25 d = 1#1 then semSignalWord (⟨k0_dev25, k0_dev25_lt d h⟩ : Dev nD) barS 1#32 >>= fun _ => K else K,
    if h : k0_cond26 d = 1#1 then semSignalWord (⟨k0_dev26, k0_dev26_lt d h⟩ : Dev nD) barS 1#32 >>= fun _ => K else K,
    if h : k0_cond27 d = 1#1 then semSignalWord (⟨k0_dev27, k0_dev27_lt d h⟩ : Dev nD) barS 1#32 >>= fun _ => K else K,
    if h : k0_cond28 d = 1#1 then semSignalWord (⟨k0_dev28, k0_dev28_lt d h⟩ : Dev nD) barS 1#32 >>= fun _ => K else K,
    if h : k0_cond29 d = 1#1 then semSignalWord (⟨k0_dev29, k0_dev29_lt d h⟩ : Dev nD) barS 1#32 >>= fun _ => K else K,
    if h : k0_cond30 d = 1#1 then semSignalWord (⟨k0_dev30, k0_dev30_lt d h⟩ : Dev nD) barS 1#32 >>= fun _ => K else K,
    if h : k0_cond31 d = 1#1 then semSignalWord (⟨k0_dev31, k0_dev31_lt d h⟩ : Dev nD) barS 1#32 >>= fun _ => K else K,
    if h : k0_cond32 d = 1#1 then semSignalWord (⟨k0_dev32, k0_dev32_lt d h⟩ : Dev nD) barS 1#32 >>= fun _ => K else K] : Fin 32 → CoreProg F α) i

/-- A stretch of the barrier's loop, then `k`. -/
def sigs {α : Type} (d : Dev nD) (l : List (Fin 32)) (k : CoreProg F α) : CoreProg F α :=
  l.foldr (sigStep d) k

/-- A copy of the all-to-all. -/
def xSend {α : Type} (d : Dev nD) (r : Fin 31) (K : CoreProg F α) : CoreProg F α :=
  .op (.enqueueDma (xRows arg0 d r) (.remote (Dev.tc (a2aDev r d)) (mySlot arg3 d) (.dma (xSendS arg6 d r)))
    (.dma (xRecvS arg7 d)) (View.wordExact_bits rfl) ((View.wordExact_bits rfl).reshape _ _) ⟨⟨rfl, Or.inl rfl⟩, trivial⟩) fun _ => K

/-- A receive of the all-to-all and the product of what it brought, added to the running sum. -/
def xRecv (d : Dev nD) (r : Fin 31) (K : FVec F S128x2048 .f32 → CoreProg F PUnit) (acc : FVec F S128x2048 .f32) : CoreProg F PUnit :=
  .op (.waitDma2 (xInS arg7 d r) (xTop arg0) (inSlot arg3 d r) (View.wordExact_bits rfl) ((View.wordExact_bits rfl).reshape _ _)) fun _ =>
  .op (.load arg3 (Rect.unit (s := S32x128x128) (k0_off9 d (stepW r)) S1x128x128.size (k0_off9_inb d r)).toLoadRect (View.loadsAt_vmem h_S1x128x128)) fun v =>
  .op (.load arg1 (Rect.unit (s := S4096x2048) (k0_off10 d (stepW r)) S128x2048.size (k0_off10_inb d r)).toLoadRect (View.loadsAt_vmem h_S128x2048)) fun w =>
  K (k0_pay3 acc v w)

/-- The wait for one's own copy. -/
def xDone (d : Dev nD) (r : Fin 31) (K : CoreProg F PUnit) : CoreProg F PUnit :=
  .op (.waitDma2 (xSendS arg6 d r) (mySlot arg3 d) (xRows arg0 d r) ((View.wordExact_bits rfl).reshape _ _) (View.wordExact_bits rfl)) fun _ => K

/-- A copy of the first maximum exchange, -/
def send1 (d : Dev nD) (r : Fin 7) (K : CoreProg F PUnit) : CoreProg F PUnit :=
  .op (.enqueueDma (row1 arg4 d) (.remote (Dev.tc (am1Dev r d)) (row1 arg4 d) (.dma (send1S arg8 d r)))
    (.dma (recv1S arg9 d)) (View.wordExact_bits rfl) (View.wordExact_bits rfl) ⟨⟨rfl, Or.inl rfl⟩, trivial⟩) fun _ => K

/-- its receive, -/
def recv1 (d : Dev nD) (r : Fin 7) (K : CoreProg F PUnit) : CoreProg F PUnit :=
  .op (.waitDma2 (in1S arg9 d r) (inRow1 arg4 d r) (inRow1 arg4 d r) (View.wordExact_bits rfl) (View.wordExact_bits rfl)) fun _ => K

/-- and the wait for one's own copy. -/
def done1 (d : Dev nD) (r : Fin 7) (K : CoreProg F PUnit) : CoreProg F PUnit :=
  .op (.waitDma2 (send1S arg8 d r) (row1 arg4 d) (row1 arg4 d) (View.wordExact_bits rfl) (View.wordExact_bits rfl)) fun _ => K

/-- A copy of the second maximum exchange, -/
def send2 (d : Dev nD) (r : Fin 3) (K : CoreProg F PUnit) : CoreProg F PUnit :=
  .op (.enqueueDma (row2 arg5 d) (.remote (Dev.tc (am2Dev r d)) (row2 arg5 d) (.dma (send2S arg10 d r)))
    (.dma (recv2S arg11 d)) (View.wordExact_bits rfl) (View.wordExact_bits rfl) ⟨⟨rfl, Or.inl rfl⟩, trivial⟩) fun _ => K

/-- its receive, -/
def recv2 (d : Dev nD) (r : Fin 3) (K : CoreProg F PUnit) : CoreProg F PUnit :=
  .op (.waitDma2 (in2S arg11 d r) (inRow2 arg5 d r) (inRow2 arg5 d r) (View.wordExact_bits rfl) (View.wordExact_bits rfl)) fun _ => K

/-- and the wait for one's own copy. -/
def done2 (d : Dev nD) (r : Fin 3) (K : CoreProg F PUnit) : CoreProg F PUnit :=
  .op (.waitDma2 (send2S arg10 d r) (row2 arg5 d) (row2 arg5 d) (View.wordExact_bits rfl) (View.wordExact_bits rfl)) fun _ => K

/-- The steps of the all-to-all, in program order; -/
def steps31 : List (Fin 31) := [0, 1, 2, 3, 4, 5, 6, 7, 8, 9, 10, 11, 12, 13, 14, 15, 16, 17, 18, 19, 20, 21, 22, 23, 24, 25, 26, 27, 28, 29, 30]
/-- of the first maximum exchange; -/
def steps7 : List (Fin 7) := [0, 1, 2, 3, 4, 5, 6]
/-- and of the second. -/
def steps3 : List (Fin 3) := [0, 1, 2]

/-- The end of the kernel: the quantised block is stored. -/
def storeOut (y : FVec F S128x2048 .f32) (g : F .f32) : CoreProg F PUnit :=
  .op (.load arg2 (Rect.unit (s := S128x2048) ![0, 0] S128x2048.size inb_S128x2048_S128x2048_0_0).toLoadRect (View.loadsAt_vmem h_S128x2048)) fun _ =>
  .op (.store arg2 (Rect.unit (s := S128x2048) ![0, 0] S128x2048.size inb_S128x2048_S128x2048_0_0) (k0_pay1 y g) Finset.univ (View.stores_vmem_bits_univ h_S128x2048 rfl) (.inl rfl)) fun _ =>
  .ret ⟨⟩

/-- From the second maximum exchange on. -/
def phase2 (d : Dev nD) (y : FVec F S128x2048 .f32) : CoreProg F PUnit :=
  .op (.load arg4 (Rect.unit (s := S8x128) ![0, 0] S8x128.size inb_S8x128_S8x128_0_0).toLoadRect (View.loadsAt_vmem h_S8x128)) fun a =>
  .op (.load arg5 (Rect.unit (s := S4x128) (k0_off17 d) S1x128.size (k0_off17_inb d)).toLoadRect (View.loadsAt_vmem h_S1x128)) fun _ =>
  .op (.store arg5 (Rect.unit (s := S4x128) (k0_off17 d) S1x128.size (k0_off17_inb d)) (k0_pay35 a) Finset.univ (View.stores_vmem_bits_univ h_S1x128 rfl) (.inl rfl)) fun _ =>
  steps3.foldr (send2 arg5 arg10 arg11 d) <| steps3.foldr (recv2 arg5 arg11 d) <|
  .op (.load arg5 (Rect.unit (s := S4x128) ![0, 0] S4x128.size inb_S4x128_S4x128_0_0).toLoadRect (View.loadsAt_vmem h_S4x128)) fun b =>
  steps7.foldr (done1 arg4 arg8 d) <| steps3.foldr (done2 arg5 arg10 d) <| storeOut arg2 y (k0_pay36 b)

/-- From the first maximum exchange on. -/
def phase1 (d : Dev nD) (y : FVec F S128x2048 .f32) : CoreProg F PUnit :=
  .op (.load arg4 (Rect.unit (s := S8x128) (k0_off11 d) S1x128.size (k0_off11_inb d)).toLoadRect (View.loadsAt_vmem h_S1x128)) fun _ =>
  .op (.store arg4 (Rect.unit (s := S8x128) (k0_off11 d) S1x128.size (k0_off11_inb d)) (k0_pay34 y) Finset.univ (View.stores_vmem_bits_univ h_S1x128 rfl) (.inl rfl)) fun _ =>
  steps7.foldr (send1 arg4 arg8 arg9 d) <| steps7.foldr (recv1 arg4 arg9 d) <| phase2 arg2 arg4 arg5 arg8 arg10 arg11 d y

/-- After the barrier. -/
def afterBarrier (d : Dev nD) : CoreProg F PUnit :=
  steps31.foldr (xSend arg0 arg3 arg6 arg7 d) <|
  .op (.load arg0 (Rect.unit (s := S4096x128) (k0_off5 d) S128x128.size (k0_off5_inb d)).toLoadRect (View.loadsAt_vmem h_S128x128)) fun v =>
  .op (.load arg1 (Rect.unit (s := S4096x2048) (k0_off6 d) S128x2048.size (k0_off6_inb d)).toLoadRect (View.loadsAt_vmem h_S128x2048)) fun w =>
  steps31.foldr (xRecv arg0 arg1 arg3 arg7 d)
    (fun acc => steps31.foldr (xDone arg0 arg3 arg6 d) (phase1 arg2 arg4 arg5 arg8 arg9 arg10 arg11 d (k0_pay33 acc)))
    (k0_pay2 v w)

/-- The barrier's wait and what follows it. -/
def fromWait (d : Dev nD) : CoreProg F PUnit :=
  .op (.semWait barS (31#32).toInt) fun _ => afterBarrier arg0 arg1 arg2 arg3 arg4 arg5 arg6 arg7 arg8 arg9 arg10 arg11 d

end Operands

/-! ## The printed body is the regular one -/

/-- A continuation goes under one conditional signal, -/
theorem if_bind {α β : Type} (p : Prop) [Decidable p] (s : p → CoreProg F PUnit) (K : CoreProg F α) (f : α → CoreProg F β) :
    ((if h : p then s h >>= fun _ => K else K) >>= f) = if h : p then s h >>= fun _ => (K >>= f) else (K >>= f) := by
  split
  · exact bind_assoc ..
  · rfl

/-- and under a table of them, entry by entry. -/
theorem vec_bind {α β : Type} {n : ℕ} {a : CoreProg F α} {v : Fin n → CoreProg F α} {b : CoreProg F β} {w : Fin n → CoreProg F β}
    {f : α → CoreProg F β} (h₀ : (a >>= f) = b) (h : ∀ i, (v i >>= f) = w i) :
    ∀ i, (Matrix.vecCons a v i >>= f) = Matrix.vecCons b w i :=
  Fin.cases h₀ h

/-- A continuation goes under one step of the barrier's loop. -/
theorem sigStep_bind {α β : Type} (d : Dev nD) (i : Fin 32) (K : CoreProg F α) (f : α → CoreProg F β) :
    (sigStep d i K >>= f) = sigStep d i (K >>= f) := by
  unfold sigStep
  revert i
  iterate 32 refine vec_bind (if_bind ..) ?_
  exact fun i => i.elim0

/-- A stretch of the barrier's loop and then a program, continued: the continuation goes under the stretch. -/
theorem sigs_bind {α β : Type} (d : Dev nD) (l : List (Fin 32)) (k : CoreProg F α) (f : α → CoreProg F β) :
    (sigs d l k >>= f) = sigs d l (k >>= f) := by
  induction l with
  | nil => rfl
  | cons i l ih =>
    show (sigStep d i (sigs d l k) >>= f) = sigStep d i (sigs d l (k >>= f))
    rw [sigStep_bind, ih]

/-- Two stretches of the barrier's loop are one. -/
theorem sigs_append {α : Type} (d : Dev nD) (l l' : List (Fin 32)) (k : CoreProg F α) :
    sigs d l (sigs d l' k) = sigs d (l ++ l') k := by
  unfold sigs; rw [List.foldr_append]

section Equal

variable (arg0 : Memref sig .tc .vmem S4096x128 .f32) (harg0 : arg0.IsWhole) (arg1 : Memref sig .tc .vmem S4096x2048 .f32) (harg1 : arg1.IsWhole)
  (arg2 : Memref sig .tc .vmem S128x2048 .f32) (harg2 : arg2.IsWhole) (arg3 : Memref sig .tc .vmem S32x128x128 .f32) (harg3 : arg3.IsWhole)
  (arg4 : Memref sig .tc .vmem S8x128 .f32) (harg4 : arg4.IsWhole) (arg5 : Memref sig .tc .vmem S4x128 .f32) (harg5 : arg5.IsWhole)
  (arg6 : DmaSems sig S32) (arg7 : DmaSems sig S32) (arg8 : DmaSems sig S8) (arg9 : DmaSems sig S8)
  (arg10 : DmaSems sig S4) (arg11 : DmaSems sig S4)

/-- The device's number as the printed body computes it. -/
abbrev meW (d : Dev nD) : BitVec 32 := Scalar.remsi (Scalar.divsi (Dev.word d) 1#32) 32#32

/-- The first part of the printed program is the first stretch of signals; -/
theorem part1_eq : k0_part1 (F := F) arg0 harg0 arg1 harg1 arg2 harg2 arg3 harg3 arg4 harg4 arg5 harg5 arg6 arg7 arg8 arg9 arg10 arg11
    = .op .deviceId fun d => sigs d [0, 1, 2, 3, 4, 5, 6, 7] (.ret ⟨d, meW d, SemArray.scalar (sig.barrier 0 rfl)⟩) := by chain_rfl

/-- the second part is the next, -/
theorem part2_eq (d : Dev nD) : k0_part2 (F := F) arg0 harg0 arg1 harg1 arg2 harg2 arg3 harg3 arg4 harg4 arg5 harg5 arg6 arg7 arg8 arg9 arg10 arg11 d (meW d) (SemArray.scalar (sig.barrier 0 rfl))
    = sigs d [8, 9, 10, 11, 12, 13, 14, 15, 16, 17] (.ret ⟨⟩) := by chain_rfl

/-- the third the one after, -/
theorem part3_eq (d : Dev nD) : k0_part3 (F := F) arg0 harg0 arg1 harg1 arg2 harg2 arg3 harg3 arg4 harg4 arg5 harg5 arg6 arg7 arg8 arg9 arg10 arg11 d (meW d) (SemArray.scalar (sig.barrier 0 rfl))
    = sigs d [18, 19, 20, 21, 22, 23, 24, 25, 26, 27] (.ret ⟨⟩) := by chain_rfl

/-- and the fourth the last. -/
theorem part4_eq (d : Dev nD) : k0_part4 (F := F) arg0 harg0 arg1 harg1 arg2 harg2 arg3 harg3 arg4 harg4 arg5 harg5 arg6 arg7 arg8 arg9 arg10 arg11 d (meW d) (SemArray.scalar (sig.barrier 0 rfl))
    = sigs d [28, 29, 30, 31] (.op (.semWait barS (31#32).toInt) fun _ => xSend arg0 arg3 arg6 arg7 d 0 (.ret ⟨Scalar.addi (meW d) 2#32, 32#32⟩)) := by chain_rfl

set_option maxRecDepth 65536 in
/-- The printed body: the barrier's loop, its wait, and what follows. -/
theorem body_eq : cc0_body (F := F) arg0 harg0 arg1 harg1 arg2 harg2 arg3 harg3 arg4 harg4 arg5 harg5 arg6 arg7 arg8 arg9 arg10 arg11
    = .op .deviceId fun d => sigs d [0, 1, 2, 3, 4, 5, 6, 7, 8, 9, 10, 11, 12, 13, 14, 15, 16, 17, 18, 19, 20, 21, 22, 23, 24, 25, 26, 27, 28, 29, 30, 31] (fromWait arg0 arg1 arg2 arg3 arg4 arg5 arg6 arg7 arg8 arg9 arg10 arg11 d) := by
  rw [cc0_body_eq_skeleton]; unfold cc0_body_skel
  rw [k0_part80_eq_skeleton]; unfold k0_part80_skel
  rw [part1_eq]
  simp only [Prog.bind_op, sigs_bind, Prog.bind_ret]
  refine congrArg (Prog.op TpuEff.deviceId) (funext fun d => ?_)
  rw [part2_eq]
  simp only [Prog.bind_op, sigs_bind, Prog.bind_ret]
  rw [part3_eq]
  simp only [Prog.bind_op, sigs_bind, Prog.bind_ret]
  rw [part4_eq]
  simp only [Prog.bind_op, sigs_bind, Prog.bind_ret, sigs_append, List.cons_append, List.nil_append]
  refine congrArg (sigs d _) ?_
  chain_rfl

end Equal

end Cert.A2A

end
-- ==== Proof.Ring.lean ====
/-
The exchanges as one family of 41 transfers: 31 of the all-to-all, 7 of the first maximum exchange (inside a plane of
eight devices), 3 of the second (between the planes). Each transfer is a permutation of the devices.
-/
module

public import proofs.«01_k».proof.Proof.Program

@[expose] public section

noncomputable section

namespace Cert.A2A

open Idealize.ShloMosaic Idealize.SL.Sem
open Cert.KernelIdeal Cert.KernelIdeal.Gen

/-- The transfers a device takes part in. -/
abbrev T : Type := Fin 31 ⊕ Fin 7 ⊕ Fin 3

/-- The device `r + 1` places after `c`, over the whole mesh; -/
def fwd31 (r : Fin 31) (c : Dev nD) : Dev nD := ⟨(c.val + r.val + 1) % 32, Nat.mod_lt _ (by decide)⟩
/-- the device `r + 1` places before it; -/
def bwd31 (r : Fin 31) (c : Dev nD) : Dev nD := ⟨(c.val + 31 - r.val) % 32, Nat.mod_lt _ (by decide)⟩
/-- the same inside the plane of `c`; -/
def fwd7 (r : Fin 7) (c : Dev nD) : Dev nD := ⟨c.val / 8 * 8 + (c.val % 8 + r.val + 1) % 8, by have := c.isLt; simp only [nD] at *; omega⟩
/-- and the device `r + 1` places before it there; -/
def bwd7 (r : Fin 7) (c : Dev nD) : Dev nD := ⟨c.val / 8 * 8 + (c.val % 8 + 7 - r.val) % 8, by have := c.isLt; simp only [nD] at *; omega⟩
/-- and among the devices at the same place of their planes. -/
def fwd3 (r : Fin 3) (c : Dev nD) : Dev nD := ⟨(c.val + 8 * r.val + 8) % 32, Nat.mod_lt _ (by decide)⟩
/-- and the same backwards. -/
def bwd3 (r : Fin 3) (c : Dev nD) : Dev nD := ⟨(c.val + 24 - 8 * r.val) % 32, Nat.mod_lt _ (by decide)⟩

/-- The permutation of the all-to-all's step `r`: a device to where it sends. -/
def to31 (r : Fin 31) : Dev nD ≃ Dev nD where
  toFun := fwd31 r
  invFun := bwd31 r
  left_inv c := by have := c.isLt; apply Fin.ext; simp only [fwd31, bwd31, nD] at *; omega
  right_inv c := by have := c.isLt; apply Fin.ext; simp only [fwd31, bwd31, nD] at *; omega

/-- The permutation of the first maximum exchange's step `r`; -/
def to7 (r : Fin 7) : Dev nD ≃ Dev nD where
  toFun := fwd7 r
  invFun := bwd7 r
  left_inv c := by have := c.isLt; apply Fin.ext; simp only [fwd7, bwd7, nD] at *; omega
  right_inv c := by have := c.isLt; apply Fin.ext; simp only [fwd7, bwd7, nD] at *; omega

/-- and of the second's. -/
def to3 (r : Fin 3) : Dev nD ≃ Dev nD where
  toFun := fwd3 r
  invFun := bwd3 r
  left_inv c := by have := c.isLt; apply Fin.ext; simp only [fwd3, bwd3, nD] at *; omega
  right_inv c := by have := c.isLt; apply Fin.ext; simp only [fwd3, bwd3, nD] at *; omega

/-- Where transfer `t` takes a device's data. -/
def dest : T → (Dev nD ≃ Dev nD)
  | .inl r => to31 r
  | .inr (.inl r) => to7 r
  | .inr (.inr r) => to3 r

/-- Where the data transfer `t` brings a device comes from. -/
abbrev orig (t : T) : Dev nD ≃ Dev nD := (dest t).symm

/-- Two different devices are a step of the all-to-all apart: the step. -/
def gap (c d : Dev nD) : ℕ := (d.val + 31 - c.val) % 32

/-- The step that leads from one device to another is one of the 31. -/
theorem gap_lt {c d : Dev nD} (h : c ≠ d) : gap c d < 31 := by
  have h1 := c.isLt; have h2 := d.isLt
  have : c.val ≠ d.val := fun e => h (Fin.ext e)
  simp only [gap, nD] at *; omega

/-- It is the only step that does. -/
theorem to31_eq_iff (r : Fin 31) (c d : Dev nD) (h : c ≠ d) : to31 r c = d ↔ r = ⟨gap c d, gap_lt h⟩ := by
  have h1 := c.isLt; have h2 := d.isLt; have h3 := r.isLt
  have : c.val ≠ d.val := fun e => h (Fin.ext e)
  rw [Fin.ext_iff, Fin.ext_iff]
  show (fwd31 r c).val = d.val ↔ r.val = gap c d
  simp only [fwd31, gap, nD] at *; omega

/-- No transfer goes to its own device, -/
theorem dest_ne (t : T) (c : Dev nD) : dest t c ≠ c := by
  have h1 := c.isLt
  rcases t with r | r | r <;> (have h3 := r.isLt; intro e; have e := congrArg Fin.val e)
  · change (fwd31 r c).val = _ at e; simp only [fwd31, nD] at *; omega
  · change (fwd7 r c).val = _ at e; simp only [fwd7, nD] at *; omega
  · change (fwd3 r c).val = _ at e; simp only [fwd3, nD] at *; omega

/-- and none comes from it. -/
theorem orig_ne (t : T) (c : Dev nD) : orig t c ≠ c := fun h => dest_ne t c (by
  have := congrArg (dest t) h; rw [Equiv.apply_symm_apply] at this; exact this.symm)

/-! ## The semaphores of a transfer -/

/-- The semaphore transfer `t` of device `c` counts at its sender; -/
def sSem : T → Dev nD → DmaSem sig
  | .inl r, c => xSendS cc0_scratch3 c r
  | .inr (.inl r), c => send1S cc0_scratch5 c r
  | .inr (.inr r), c => send2S cc0_scratch7 c r

/-- the one it counts at its target, as the sender names it; -/
def rSem : T → Dev nD → DmaSem sig
  | .inl r, c => xRecvS cc0_scratch4 c
  | .inr (.inl r), c => recv1S cc0_scratch6 c
  | .inr (.inr r), c => recv2S cc0_scratch8 c

/-- and as the target does. -/
def iSem : T → Dev nD → DmaSem sig
  | .inl r, c => xInS cc0_scratch4 c r
  | .inr (.inl r), c => in1S cc0_scratch6 c r
  | .inr (.inr r), c => in2S cc0_scratch8 c r

/-- The semaphore's number, of a sender's cell; -/
def sIx : T → Dev nD → ℕ
  | .inl r, c => 3 + (c.val + r.val + 1) % 32
  | .inr (.inl r), c => 67 + (c.val % 8 + r.val + 1) % 8
  | .inr (.inr r), c => 83 + (c.val / 8 + r.val + 1) % 4

/-- and of a target's. -/
def iIx : T → Dev nD → ℕ
  | .inl r, c => 35 + (c.val + 31 - r.val) % 32
  | .inr (.inl r), c => 75 + (c.val % 8 + 7 - r.val) % 8
  | .inr (.inr r), c => 87 + (c.val / 8 + 3 - r.val) % 4

/-- The number of a sender's semaphore, -/
theorem sSem_val (t : T) (c : Dev nD) : (sSem t c).val = sIx t c := by
  rcases t with r | r | r
  · revert r c; decide +kernel
  · revert r c; decide +kernel
  · revert r c; decide +kernel

/-- and of an arrival's. -/
theorem iSem_val (t : T) (c : Dev nD) : (iSem t c).val = iIx t c := by
  rcases t with r | r | r
  · revert r c; decide +kernel
  · revert r c; decide +kernel
  · revert r c; decide +kernel

/-- The semaphore a send names for its landing is its target's for the arrival. -/
theorem rSem_eq (t : T) (c : Dev nD) : rSem t c = iSem t (dest t c) := by
  rcases t with r | r | r
  · revert r c; decide +kernel
  · revert r c; decide +kernel
  · revert r c; decide +kernel

/-! ## Reading a semaphore's number back -/

/-- What a DMA semaphore is to a device: nothing of the protocol, a transfer's at its sender, or at its target. -/
def role (c : Dev nD) (n : ℕ) : Option (T ⊕ T) :=
  if n < 3 then none
  else if n < 35 then (if h : (n - 3 + 31 - c.val) % 32 < 31 then some (.inl (.inl ⟨_, h⟩)) else none)
  else if n < 67 then (if h : (c.val + 31 - (n - 35)) % 32 < 31 then some (.inr (.inl ⟨_, h⟩)) else none)
  else if n < 75 then (if h : (n - 67 + 7 - c.val % 8) % 8 < 7 then some (.inl (.inr (.inl ⟨_, h⟩))) else none)
  else if n < 83 then (if h : (c.val % 8 + 7 - (n - 75)) % 8 < 7 then some (.inr (.inr (.inl ⟨_, h⟩))) else none)
  else if n < 87 then (if h : (n - 83 + 3 - c.val / 8) % 4 < 3 then some (.inl (.inr (.inr ⟨_, h⟩))) else none)
  else (if h : (c.val / 8 + 3 - (n - 87)) % 4 < 3 then some (.inr (.inr (.inr ⟨_, h⟩))) else none)

/-- The role of a sender's number is the send, -/
theorem role_sIx (t : T) (c : Dev nD) : role c (sIx t c) = some (.inl t) := by
  rcases t with r | r | r
  · revert r c; decide +kernel
  · revert r c; decide +kernel
  · revert r c; decide +kernel

/-- of an arrival's the arrival; -/
theorem role_iIx (t : T) (c : Dev nD) : role c (iIx t c) = some (.inr t) := by
  rcases t with r | r | r
  · revert r c; decide +kernel
  · revert r c; decide +kernel
  · revert r c; decide +kernel

/-- so the role of a sender's semaphore is the send, -/
theorem role_sSem (t : T) (c : Dev nD) : role c (sSem t c).val = some (.inl t) := by rw [sSem_val, role_sIx]
/-- and of an arrival's the arrival. -/
theorem role_iSem (t : T) (c : Dev nD) : role c (iSem t c).val = some (.inr t) := by rw [iSem_val, role_iIx]

/-! ## The program's device tables and offsets -/

/-- The program's target of a step of the all-to-all is the transfer's; -/
theorem a2aDev_eq (r : Fin 31) (c : Dev nD) : a2aDev r c = dest (.inl r) c := by revert r c; decide +kernel
/-- so is that of the first exchange, -/
theorem am1Dev_eq (r : Fin 7) (c : Dev nD) : am1Dev r c = dest (.inr (.inl r)) c := by revert r c; decide +kernel
/-- and of the second. -/
theorem am2Dev_eq (r : Fin 3) (c : Dev nD) : am2Dev r c = dest (.inr (.inr r)) c := by revert r c; decide +kernel

/-- The place of a device in its plane, and its plane. -/
def pos (c : Dev nD) : Fin 8 := ⟨c.val % 8, Nat.mod_lt _ (by decide)⟩
/-- The plane of a device. -/
def plane (c : Dev nD) : Fin 4 := ⟨c.val / 8, by have := c.isLt; simp only [nD] at *; omega⟩
/-- The device at a plane and a place. -/
def devAt (z : Fin 4) (p : Fin 8) : Dev nD := ⟨z.val * 8 + p.val, by simp only [nD]; omega⟩

/-- The rows a step of the all-to-all sends; -/
theorem off4_eq (r : Fin 31) (c : Dev nD) : k0_off4 c (stepW r) = ![(dest (.inl r) c).val * 128, 0] := by revert r c; decide +kernel
/-- the slot it waits for, -/
theorem off8_eq (r : Fin 31) (c : Dev nD) : k0_off8 c (stepW r) = ![(orig (.inl r) c).val, 0, 0] := by revert r c; decide +kernel
/-- the slot it reads, -/
theorem off9_eq (r : Fin 31) (c : Dev nD) : k0_off9 c (stepW r) = ![(orig (.inl r) c).val, 0, 0] := by revert r c; decide +kernel
/-- and the rows of the weights it multiplies by. -/
theorem off10_eq (r : Fin 31) (c : Dev nD) : k0_off10 c (stepW r) = ![(orig (.inl r) c).val * 128, 0] := by revert r c; decide +kernel
/-- The slot a device fills at its targets; -/
theorem off3_eq (c : Dev nD) : k0_off3 c = ![c.val, 0, 0] := by revert c; decide +kernel
/-- the rows of `x` it keeps, -/
theorem off5_eq (c : Dev nD) : k0_off5 c = ![c.val * 128, 0] := by revert c; decide +kernel
/-- and the rows of the weights for them. -/
theorem off6_eq (c : Dev nD) : k0_off6 c = ![c.val * 128, 0] := by revert c; decide +kernel
/-- The row of the first maximum buffer a device stores, -/
theorem off11_eq (c : Dev nD) : k0_off11 c = ![(pos c).val, 0] := by revert c; decide +kernel
/-- and the one it sends. -/
theorem off14_eq (c : Dev nD) : k0_off14 c = ![(pos c).val, 0] := by revert c; decide +kernel
/-- The row of the second it stores, -/
theorem off17_eq (c : Dev nD) : k0_off17 c = ![(plane c).val, 0] := by revert c; decide +kernel
/-- and the one it sends. -/
theorem off20_eq (c : Dev nD) : k0_off20 c = ![(plane c).val, 0] := by revert c; decide +kernel

end Cert.A2A

end
-- ==== Proof.Contents.lean ====
/-
What the buffers hold: the regions of the buffers the exchanges move, and the contents each has once moved, as functions
of the inputs every device starts from.
-/
module

public import proofs.«01_k».proof.Proof.Ring
public import Idealize.ShloMosaic.Lib.Ring
public import Idealize.ShloMosaic.Lib.ValueLayout

@[expose] public section

noncomputable section

namespace Cert.A2A

open Idealize.ShloMosaic Idealize.SL.Sem Idealize.ShloMosaic.ValueIdx
open Cert.KernelIdeal Cert.KernelIdeal.Gen

/-! ## The buffers -/

/-- The staged block of `x`, -/
abbrev xM : Memref sig .tc .vmem S4096x128 .f32 := Memref.whole cc0_stg0_0
/-- the staged weights, -/
abbrev wM : Memref sig .tc .vmem S4096x2048 .f32 := Memref.whole cc0_stg1_0
/-- the staged result, -/
abbrev oM : Memref sig .tc .vmem S128x2048 .f32 := Memref.whole cc0_stg2_0
/-- the gather buffer, -/
abbrev gM : Memref sig .tc .vmem S32x128x128 .f32 := Memref.whole cc0_scratch0
/-- the first maximum buffer, -/
abbrev aM : Memref sig .tc .vmem S8x128 .f32 := Memref.whole cc0_scratch1
/-- and the second. -/
abbrev bM : Memref sig .tc .vmem S4x128 .f32 := Memref.whole cc0_scratch2

/-! ## The regions -/

/-- The rows of `x` meant for device `k`. -/
def rowsSet (k : Dev nD) : Finset S4096x128.Idx := Finset.univ.filter fun i => (i 0).val / 128 = k.val
/-- The slot of the gather buffer that device `s` fills. -/
def slotSet (s : Dev nD) : Finset S32x128x128.Idx := Finset.univ.filter fun i => (i 0).val = s.val
/-- A row of the first maximum buffer, -/
def row1Set (p : Fin 8) : Finset S8x128.Idx := Finset.univ.filter fun i => (i 0).val = p.val
/-- and one of the second. -/
def row2Set (z : Fin 4) : Finset S4x128.Idx := Finset.univ.filter fun i => (i 0).val = z.val

/-- A rectangle of 128 rows at `128 k` is the rows meant for device `k`. -/
theorem rows_unit {off : Fin 2 → ℕ} (k : Dev nD) (h : off = ![k.val * 128, 0]) (inb) :
    (Rect.unit (s := S4096x128) off S128x128.size inb).set = rowsSet k := by
  subst h
  ext i
  rw [Rect.mem_set_unit, rowsSet, Finset.mem_filter]
  have h1 : (i 1).val < 128 := (i 1).isLt
  constructor
  · intro h
    have h0 : k.val * 128 ≤ (i 0).val ∧ (i 0).val < k.val * 128 + 128 := h 0
    exact ⟨Finset.mem_univ _, by omega⟩
  · rintro ⟨-, h⟩ a
    match a with
    | ⟨0, _⟩ => show k.val * 128 ≤ (i 0).val ∧ (i 0).val < k.val * 128 + 128; omega
    | ⟨1, _⟩ => show 0 ≤ (i 1).val ∧ (i 1).val < 0 + 128; omega

/-- A rectangle of one slot at `s` is the slot of device `s`. -/
theorem slot_unit {off : Fin 3 → ℕ} (s : Dev nD) (h : off = ![s.val, 0, 0]) (inb) :
    (Rect.unit (s := S32x128x128) off S1x128x128.size inb).set = slotSet s := by
  subst h
  ext i
  rw [Rect.mem_set_unit, slotSet, Finset.mem_filter]
  have h1 : (i 1).val < 128 := (i 1).isLt
  have h2 : (i 2).val < 128 := (i 2).isLt
  constructor
  · intro h
    have h0 : s.val ≤ (i 0).val ∧ (i 0).val < s.val + 1 := h 0
    exact ⟨Finset.mem_univ _, by omega⟩
  · rintro ⟨-, h⟩ a
    match a with
    | ⟨0, _⟩ => show s.val ≤ (i 0).val ∧ (i 0).val < s.val + 1; omega
    | ⟨1, _⟩ => show 0 ≤ (i 1).val ∧ (i 1).val < 0 + 128; omega
    | ⟨2, _⟩ => show 0 ≤ (i 2).val ∧ (i 2).val < 0 + 128; omega

/-- A rectangle of one row at `p` is row `p` of the first maximum buffer; -/
theorem row1_unit {off : Fin 2 → ℕ} (p : Fin 8) (h : off = ![p.val, 0]) (inb) :
    (Rect.unit (s := S8x128) off S1x128.size inb).set = row1Set p := by
  subst h
  ext i
  rw [Rect.mem_set_unit, row1Set, Finset.mem_filter]
  have h1 : (i 1).val < 128 := (i 1).isLt
  constructor
  · intro h
    have h0 : p.val ≤ (i 0).val ∧ (i 0).val < p.val + 1 := h 0
    exact ⟨Finset.mem_univ _, by omega⟩
  · rintro ⟨-, h⟩ a
    match a with
    | ⟨0, _⟩ => show p.val ≤ (i 0).val ∧ (i 0).val < p.val + 1; omega
    | ⟨1, _⟩ => show 0 ≤ (i 1).val ∧ (i 1).val < 0 + 128; omega

/-- the same of the second. -/
theorem row2_unit {off : Fin 2 → ℕ} (p : Fin 4) (h : off = ![p.val, 0]) (inb) :
    (Rect.unit (s := S4x128) off S1x128.size inb).set = row2Set p := by
  subst h
  ext i
  rw [Rect.mem_set_unit, row2Set, Finset.mem_filter]
  have h1 : (i 1).val < 128 := (i 1).isLt
  constructor
  · intro h
    have h0 : p.val ≤ (i 0).val ∧ (i 0).val < p.val + 1 := h 0
    exact ⟨Finset.mem_univ _, by omega⟩
  · rintro ⟨-, h⟩ a
    match a with
    | ⟨0, _⟩ => show p.val ≤ (i 0).val ∧ (i 0).val < p.val + 1; omega
    | ⟨1, _⟩ => show 0 ≤ (i 1).val ∧ (i 1).val < 0 + 128; omega

/-- The rows meant for different devices share no entry; -/
theorem rows_disj (k k' : Dev nD) (h : k ≠ k') : Disjoint (rowsSet k) (rowsSet k') :=
  Finset.disjoint_filter.mpr fun i _ h1 h2 => h (Fin.ext (h1.symm.trans h2))
/-- nor do different slots, -/
theorem slot_disj (k k' : Dev nD) (h : k ≠ k') : Disjoint (slotSet k) (slotSet k') :=
  Finset.disjoint_filter.mpr fun i _ h1 h2 => h (Fin.ext (h1.symm.trans h2))
/-- nor different rows of the first maximum buffer, -/
theorem row1_disj (k k' : Fin 8) (h : k ≠ k') : Disjoint (row1Set k) (row1Set k') :=
  Finset.disjoint_filter.mpr fun i _ h1 h2 => h (Fin.ext (h1.symm.trans h2))
/-- nor of the second. -/
theorem row2_disj (k k' : Fin 4) (h : k ≠ k') : Disjoint (row2Set k) (row2Set k') :=
  Finset.disjoint_filter.mpr fun i _ h1 h2 => h (Fin.ext (h1.symm.trans h2))

/-- The rows meant for all devices are the whole block; -/
theorem rows_cover : Finset.univ.biUnion rowsSet = Finset.univ := by
  ext i
  have h : (i 0).val < 4096 := (i 0).isLt
  exact ⟨fun _ => Finset.mem_univ _, fun _ => Finset.mem_biUnion.mpr ⟨(⟨(i 0).val / 128, by simp only [nD]; omega⟩ : Dev nD), Finset.mem_univ _,
    Finset.mem_filter.mpr ⟨Finset.mem_univ _, rfl⟩⟩⟩
/-- the slots are the whole gather buffer; -/
theorem slot_cover : Finset.univ.biUnion slotSet = Finset.univ := by
  ext i
  exact ⟨fun _ => Finset.mem_univ _, fun _ => Finset.mem_biUnion.mpr ⟨(i 0 : Fin 32), Finset.mem_univ _, Finset.mem_filter.mpr ⟨Finset.mem_univ _, rfl⟩⟩⟩
/-- the rows are the whole first maximum buffer, -/
theorem row1_cover : Finset.univ.biUnion row1Set = Finset.univ := by
  ext i
  exact ⟨fun _ => Finset.mem_univ _, fun _ => Finset.mem_biUnion.mpr ⟨(i 0 : Fin 8), Finset.mem_univ _, Finset.mem_filter.mpr ⟨Finset.mem_univ _, rfl⟩⟩⟩
/-- and the whole second. -/
theorem row2_cover : Finset.univ.biUnion row2Set = Finset.univ := by
  ext i
  exact ⟨fun _ => Finset.mem_univ _, fun _ => Finset.mem_biUnion.mpr ⟨(i 0 : Fin 4), Finset.mem_univ _, Finset.mem_filter.mpr ⟨Finset.mem_univ _, rfl⟩⟩⟩

/-! ## The program's views and their regions -/

/-- Where a row of the first exchange arrives: the place of the device that sent it; -/
theorem off16_eq (r : Fin 7) (c : Dev nD) : k0_off16 c (stepW r) = ![(pos (orig (.inr (.inl r)) c)).val, 0] := by revert r c; decide +kernel
/-- and one of the second: the plane of the device that sent it. -/
theorem off22_eq (r : Fin 3) (c : Dev nD) : k0_off22 c (stepW r) = ![(plane (orig (.inr (.inr r)) c)).val, 0] := by revert r c; decide +kernel

/-- What a step of the all-to-all reads: the rows meant for its target; -/
theorem xRows_set (c : Dev nD) (r : Fin 31) : (xRows xM c r).view.set = rowsSet (dest (.inl r) c) :=
  (View.set_slice_whole cc0_stg0_0 _).trans (rows_unit _ (off4_eq r c) _)
/-- where it lands: the sender's slot; -/
theorem mySlot_set (c : Dev nD) : (mySlot gM c).view.set = slotSet c :=
  (View.set_reshape _ _).trans ((View.set_slice_whole cc0_scratch0 _).trans (slot_unit _ (off3_eq c) _))
/-- the row the first exchange moves; -/
theorem row1_set (c : Dev nD) : (row1 aM c).view.set = row1Set (pos c) :=
  (View.set_slice_whole cc0_scratch1 _).trans (row1_unit _ (off14_eq c) _)
/-- the row the second moves. -/
theorem row2_set (c : Dev nD) : (row2 bM c).view.set = row2Set (plane c) :=
  (View.set_slice_whole cc0_scratch2 _).trans (row2_unit _ (off20_eq c) _)

/-! ## The contents -/

variable {F : FTy → Type} [FloatOps F]

/-- Rows `[128 k, 128 k + 128)` of a staged `x`; -/
def xBlk (f : S4096x128.Idx → F .f32) (k : Dev nD) : S128x128.Idx → F .f32 :=
  fun i => f (ix2 (n0 := 4096) (n1 := 128) ⟨k.val * 128 + (i 0).val, by have := k.isLt; have : (i 0).val < 128 := (i 0).isLt; simp only [nD] at *; omega⟩ (i 1))
/-- the same as a slot of the gather buffer; -/
def xSlab (f : S4096x128.Idx → F .f32) (k : Dev nD) : S1x128x128.Idx → F .f32 :=
  fun i => xBlk f k (ix2 (n0 := 128) (n1 := 128) (i 1) (i 2))
/-- and the same rows of `w`. -/
def wBlk (f : S4096x2048.Idx → F .f32) (k : Dev nD) : S128x2048.Idx → F .f32 :=
  fun i => f (ix2 (n0 := 4096) (n1 := 2048) ⟨k.val * 128 + (i 0).val, by have := k.isLt; have : (i 0).val < 128 := (i 0).isLt; simp only [nD] at *; omega⟩ (i 1))

variable (X : Dev nD → S4096x128.Idx → F .f32) (W : Dev nD → S4096x2048.Idx → F .f32)

/-- The gather buffer of device `c`: slot `s` holds what `s` has of the rows of `c`. -/
def gath (c : Dev nD) : S32x128x128.Idx → F .f32 :=
  fun i => xBlk (X (i 0 : Fin 32)) c (ix2 (n0 := 128) (n1 := 128) (i 1) (i 2))

/-- A step of the accumulation at device `c`. -/
def accStep (c : Dev nD) (a : FVec F S128x2048 .f32) (r : Fin 31) : FVec F S128x2048 .f32 :=
  k0_pay3 a (xSlab (X (orig (.inl r) c)) c) (wBlk (W c) (orig (.inl r) c))

/-- The accumulated product at device `c`, its own share first. -/
def acc (c : Dev nD) : FVec F S128x2048 .f32 :=
  steps31.foldl (accStep X W c) (k0_pay2 (xBlk (X c) c) (wBlk (W c) c))

/-- The rectified product. -/
def yAt (c : Dev nD) : FVec F S128x2048 .f32 := k0_pay33 (acc X W c)

/-- The first maximum buffer of device `c`: row `p` from the device at place `p` of its plane; -/
def am1 (c : Dev nD) : S8x128.Idx → F .f32 :=
  fun i => k0_pay34 (yAt X W (devAt (plane c) (i 0))) (ix2 (n0 := 1) (n1 := 128) 0 (i 1))
/-- the second: row `z` from the device at the same place of plane `z`. -/
def am2 (c : Dev nD) : S4x128.Idx → F .f32 :=
  fun i => k0_pay35 (am1 X W (devAt (i 0) (pos c))) (ix2 (n0 := 1) (n1 := 128) 0 (i 1))

/-- The result on device `c`. -/
def outV (c : Dev nD) : S128x2048.Idx → F .f32 := k0_pay1 (yAt X W c) (k0_pay36 (am2 X W c))

/-! ## Reading the buffers -/

/-- A load of 128 rows of the staged `x` reads the block meant for device `k`; -/
theorem read_xBlk {off : Fin 2 → ℕ} (k : Dev nD) (h : off = ![k.val * 128, 0]) (inb) (f : S4096x128.Idx → F .f32) :
    xM.view.readAt (Elt F) (Rect.unit (s := S4096x128) off S128x128.size inb).toLoadRect f = xBlk f k := by
  subst h
  funext i
  show f _ = f _
  refine congrArg f (funext fun a => Fin.ext ?_)
  match a with
  | ⟨0, _⟩ => show k.val * 128 + 1 * (i 0).val = k.val * 128 + (i 0).val; omega
  | ⟨1, _⟩ => show 0 + 1 * (i 1).val = (i 1).val; omega

/-- a load of 128 rows of the weights reads their block `k`; -/
theorem read_wBlk {off : Fin 2 → ℕ} (k : Dev nD) (h : off = ![k.val * 128, 0]) (inb) (f : S4096x2048.Idx → F .f32) :
    wM.view.readAt (Elt F) (Rect.unit (s := S4096x2048) off S128x2048.size inb).toLoadRect f = wBlk f k := by
  subst h
  funext i
  show f _ = f _
  refine congrArg f (funext fun a => Fin.ext ?_)
  match a with
  | ⟨0, _⟩ => show k.val * 128 + 1 * (i 0).val = k.val * 128 + (i 0).val; omega
  | ⟨1, _⟩ => show 0 + 1 * (i 1).val = (i 1).val; omega

/-- a load of slot `s` of the gather buffer reads what device `s` sent. -/
theorem read_slab {off : Fin 3 → ℕ} (c s : Dev nD) (h : off = ![s.val, 0, 0]) (inb) :
    gM.view.readAt (Elt F) (Rect.unit (s := S32x128x128) off S1x128x128.size inb).toLoadRect (gath X c) = xSlab (X s) c := by
  subst h
  funext i
  have h0 : (i 0).val = 0 := by have : (i 0).val < 1 := (i 0).isLt; omega
  show gath X c _ = _
  unfold gath xSlab
  have e0 : ((⟨s.val + 1 * (i 0).val, by rw [h0]; exact s.isLt⟩ : Fin 32)) = s := Fin.ext (by show s.val + 1 * (i 0).val = s.val; omega)
  refine (congrArg (fun t : Fin 32 => xBlk (X t) c _) e0).trans ?_
  refine congrArg (xBlk (X s) c) (funext fun a => Fin.ext ?_)
  match a with
  | ⟨0, _⟩ => show 0 + 1 * (i 1).val = (i 1).val; omega
  | ⟨1, _⟩ => show 0 + 1 * (i 2).val = (i 2).val; omega

/-- A load of the staged `x` touches its own rectangle; -/
theorem setOn_x (r : LoadRect S4096x128) : xM.view.setOn r.set = r.set := Finset.map_refl
/-- so does one of the weights, -/
theorem setOn_w (r : LoadRect S4096x2048) : wM.view.setOn r.set = r.set := Finset.map_refl
/-- one of the gather buffer, -/
theorem setOn_g (r : LoadRect S32x128x128) : gM.view.setOn r.set = r.set := Finset.map_refl
/-- one of the first maximum buffer, -/
theorem setOn_a (r : LoadRect S8x128) : aM.view.setOn r.set = r.set := Finset.map_refl
/-- and one of the second. -/
theorem setOn_b (r : LoadRect S4x128) : bM.view.setOn r.set = r.set := Finset.map_refl

/-! ## What a copy leaves -/

/-- A contents function through an offset equal to a named one. -/
theorem slot_landed (c d : Dev nD) (r : Fin 31) (hd : d = dest (.inl r) c) (fd : S32x128x128.Idx → F .f32) (i : S32x128x128.Idx) (hi : i ∈ slotSet c) :
    (mySlot gM c).view.write (Elt F) fd ((xRows xM c r).view.read (Elt F) (X c)) Finset.univ i = gath X d i := by
  subst hd
  rw [← mySlot_set] at hi
  obtain ⟨x, -, rfl⟩ := Finset.mem_map.mp hi
  rw [View.write_emb_of_mem _ _ (Finset.mem_univ x)]
  show X c _ = _
  have hx : x = ix2 (n0 := 128) (n1 := 128) (x 0) (x 1) := eq_ix2 x
  have hsq : (mySlot gM c).view.emb x = (Rect.unit (s := S32x128x128) (k0_off3 c) S1x128x128.size (k0_off3_inb c)).emb
      (ix3 (⟨0, Nat.one_pos⟩ : Fin 1) (x 0 : Fin 128) (x 1 : Fin 128)) := by
    conv_lhs => rw [hx]
    exact congrArg (Rect.unit (s := S32x128x128) (k0_off3 c) S1x128x128.size (k0_off3_inb c)).emb (reshapeEquiv_ix2_1ab (a := 128) (b := 128) _ _ _)
  rw [hsq]
  have e3 := off3_eq c
  have e4 := off4_eq r c
  have f0 : k0_off3 c 0 = c.val := by rw [e3]; rfl
  have f1 : k0_off3 c 1 = 0 := by rw [e3]; rfl
  have f2 : k0_off3 c 2 = 0 := by rw [e3]; rfl
  have g0 : k0_off4 c (stepW r) 0 = (dest (.inl r) c).val * 128 := by rw [e4]; rfl
  have g1 : k0_off4 c (stepW r) 1 = 0 := by rw [e4]; rfl
  unfold gath xBlk
  have e0 : (⟨k0_off3 c 0 + 1 * 0, by rw [f0]; exact c.isLt⟩ : Fin 32) = c := Fin.ext (by show k0_off3 c 0 + 1 * 0 = c.val; omega)
  refine Eq.trans ?_ (congrArg (fun t : Fin 32 => X t _) e0.symm)
  refine congrArg (X c) (funext fun a => Fin.ext ?_)
  match a with
  | ⟨0, _⟩ => show k0_off4 c (stepW r) 0 + 1 * (x 0).val = (dest (.inl r) c).val * 128 + (k0_off3 c 1 + 1 * (x 0).val); omega
  | ⟨1, _⟩ => show k0_off4 c (stepW r) 1 + 1 * (x 1).val = k0_off3 c 2 + 1 * (x 1).val; omega

/-- The first exchange stays in a plane; -/
theorem plane_dest7 (r : Fin 7) (c : Dev nD) : plane (dest (.inr (.inl r)) c) = plane c := by revert r c; decide +kernel
/-- the second keeps the place in the planes. -/
theorem pos_dest3 (r : Fin 3) (c : Dev nD) : pos (dest (.inr (.inr r)) c) = pos c := by revert r c; decide +kernel
/-- A device is the one at its plane and its place. -/
theorem devAt_self (c : Dev nD) : devAt (plane c) (pos c) = c := by revert c; decide +kernel

/-- A row written through the row's own view from the same row of another buffer is that row. -/
theorem row1_landed (c : Dev nD) (fd fs : S8x128.Idx → F .f32) (i : S8x128.Idx) (hi : i ∈ row1Set (pos c)) :
    (row1 aM c).view.write (Elt F) fd ((row1 aM c).view.read (Elt F) fs) Finset.univ i = fs i := by
  rw [← row1_set] at hi
  obtain ⟨x, -, rfl⟩ := Finset.mem_map.mp hi
  rw [View.write_emb_of_mem _ _ (Finset.mem_univ x)]
  rfl
/-- A row of the second exchange, landed, holds what the second maximum buffer ends with there. -/
theorem row2_landed (c : Dev nD) (fd fs : S4x128.Idx → F .f32) (i : S4x128.Idx) (hi : i ∈ row2Set (plane c)) :
    (row2 bM c).view.write (Elt F) fd ((row2 bM c).view.read (Elt F) fs) Finset.univ i = fs i := by
  rw [← row2_set] at hi
  obtain ⟨x, -, rfl⟩ := Finset.mem_map.mp hi
  rw [View.write_emb_of_mem _ _ (Finset.mem_univ x)]
  rfl

/-- Devices of one plane share the first maximum buffer's contents; -/
theorem am1_congr (c d : Dev nD) (h : plane d = plane c) : am1 X W d = am1 X W c := by unfold am1; rw [h]
/-- devices at one place of their planes share the second's. -/
theorem am2_congr (c d : Dev nD) (h : pos d = pos c) : am2 X W d = am2 X W c := by unfold am2; rw [h]

/-- A row stored at the device's own place of a buffer whose every row is its own device's; -/
theorem row1_stored_of (g : Dev nD → S1x128.Idx → F .f32) {off : Fin 2 → ℕ} (c : Dev nD) (h : off = ![(pos c).val, 0]) (inb) (fd : S8x128.Idx → F .f32)
    (i : S8x128.Idx) (hi : i ∈ row1Set (pos c)) :
    (aM.access (Rect.unit (s := S8x128) off S1x128.size inb) : View sig .tc _ _ _).write (Elt F) fd (g c) Finset.univ i
      = g (devAt (plane c) (i 0)) (ix2 (n0 := 1) (n1 := 128) 0 (i 1)) := by
  subst h
  rw [← row1_unit (pos c) rfl inb, ← View.set_slice_whole cc0_scratch1] at hi
  obtain ⟨x, -, rfl⟩ := Finset.mem_map.mp hi
  refine (View.write_emb_of_mem _ _ (Finset.mem_univ x)).trans ?_
  have h0 : (x 0).val = 0 := by have : (x 0).val < 1 := (x 0).isLt; omega
  have e0 : (⟨(pos c).val + 1 * (x 0).val, by rw [h0]; exact (pos c).isLt⟩ : Fin 8) = pos c := Fin.ext (by show (pos c).val + 1 * (x 0).val = (pos c).val; omega)
  have e1 : x = ix2 (n0 := 1) (n1 := 128) 0 ⟨0 + 1 * (x 1).val, by have : (x 1).val < 128 := (x 1).isLt; omega⟩ := funext fun a => Fin.ext (by
    match a with
    | ⟨0, _⟩ => show (x 0).val = 0; omega
    | ⟨1, _⟩ => show (x 1).val = 0 + 1 * (x 1).val; omega)
  exact congrArg₂ g ((devAt_self c).symm.trans (congrArg (devAt (plane c)) e0.symm)) e1
/-- A row stored in the second maximum buffer, read at its entries. -/
theorem row2_stored_of (g : Dev nD → S1x128.Idx → F .f32) {off : Fin 2 → ℕ} (c : Dev nD) (h : off = ![(plane c).val, 0]) (inb) (fd : S4x128.Idx → F .f32)
    (i : S4x128.Idx) (hi : i ∈ row2Set (plane c)) :
    (bM.access (Rect.unit (s := S4x128) off S1x128.size inb) : View sig .tc _ _ _).write (Elt F) fd (g c) Finset.univ i
      = g (devAt (i 0) (pos c)) (ix2 (n0 := 1) (n1 := 128) 0 (i 1)) := by
  subst h
  rw [← row2_unit (plane c) rfl inb, ← View.set_slice_whole cc0_scratch2] at hi
  obtain ⟨x, -, rfl⟩ := Finset.mem_map.mp hi
  refine (View.write_emb_of_mem _ _ (Finset.mem_univ x)).trans ?_
  have h0 : (x 0).val = 0 := by have : (x 0).val < 1 := (x 0).isLt; omega
  have e0 : (⟨(plane c).val + 1 * (x 0).val, by rw [h0]; exact (plane c).isLt⟩ : Fin 4) = plane c := Fin.ext (by show (plane c).val + 1 * (x 0).val = (plane c).val; omega)
  have e1 : x = ix2 (n0 := 1) (n1 := 128) 0 ⟨0 + 1 * (x 1).val, by have : (x 1).val < 128 := (x 1).isLt; omega⟩ := funext fun a => Fin.ext (by
    match a with
    | ⟨0, _⟩ => show (x 0).val = 0; omega
    | ⟨1, _⟩ => show (x 1).val = 0 + 1 * (x 1).val; omega)
  exact congrArg₂ g ((devAt_self c).symm.trans (congrArg (fun z => devAt z (pos c)) e0.symm)) e1

/-- What device `c` stores in its own row of the first maximum buffer; -/
theorem row1_stored {off : Fin 2 → ℕ} (c : Dev nD) (h : off = ![(pos c).val, 0]) (inb) (fd : S8x128.Idx → F .f32) (i : S8x128.Idx) (hi : i ∈ row1Set (pos c)) :
    (aM.access (Rect.unit (s := S8x128) off S1x128.size inb) : View sig .tc _ _ _).write (Elt F) fd (k0_pay34 (yAt X W c)) Finset.univ i = am1 X W c i :=
  row1_stored_of (fun d => k0_pay34 (yAt X W d)) c h inb fd i hi
/-- and in the second's. -/
theorem row2_stored {off : Fin 2 → ℕ} (c : Dev nD) (h : off = ![(plane c).val, 0]) (inb) (fd : S4x128.Idx → F .f32) (i : S4x128.Idx) (hi : i ∈ row2Set (plane c)) :
    (bM.access (Rect.unit (s := S4x128) off S1x128.size inb) : View sig .tc _ _ _).write (Elt F) fd (k0_pay35 (am1 X W c)) Finset.univ i = am2 X W c i :=
  row2_stored_of (fun d => k0_pay35 (am1 X W d)) c h inb fd i hi

/-- The offsets of a whole access are zero. -/
theorem hz2 : (![0, 0] : Fin 2 → Nat) = fun _ => 0 := funext fun a => by fin_cases a <;> rfl
/-- A load of the whole first maximum buffer reads it; -/
theorem read_am1 (inb) (f : S8x128.Idx → F .f32) :
    aM.view.readAt (Elt F) (Rect.unit (s := S8x128) ![0, 0] S8x128.size inb).toLoadRect f = f := Memref.readAt_unit_zero (Elt F) cc0_scratch1 hz2 _ f
/-- one of the whole second reads it; -/
theorem read_am2 (inb) (f : S4x128.Idx → F .f32) :
    bM.view.readAt (Elt F) (Rect.unit (s := S4x128) ![0, 0] S4x128.size inb).toLoadRect f = f := Memref.readAt_unit_zero (Elt F) cc0_scratch2 hz2 _ f
/-- a store over the whole result leaves what it stores. -/
theorem write_out (inb) (f w : S128x2048.Idx → F .f32) :
    (oM.access (Rect.unit (s := S128x2048) ![0, 0] S128x2048.size inb) : View sig .tc _ _ _).write (Elt F) f w Finset.univ = w :=
  Memref.write_access_unit_zero_univ (Elt F) cc0_stg2_0 hz2 _ f w

end Cert.A2A

end
-- ==== Proof.Protocol.lean ====
/-
The protocol: the cells of the exchanges, what each round of a cell carries, what every device owes at launch, and in what
order the waits may happen.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.A2A

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-- The names of a cell's duties: the barrier cell has 31, every other cell one. -/
abbrev UB : Type := URounds (GSem nD τ sig) (Fin 31)
/-- The ghost state: the pipeline's rounds and the exchanges'. -/
abbrev UU : Type := UR sig nD τ × UB

local notation "𝕄" => MT nD τ sig Unit (Elt F) ℕ UU ℕ

/-- Where the pipeline's rounds stand in it, -/
abbrev EP : Emb (UR sig nD τ) (MT nD τ sig Unit (Elt F) ℕ UU ℕ) := embL
/-- and where the exchanges' do. -/
abbrev ER : Emb UB (MT nD τ sig Unit (Elt F) ℕ UU ℕ) := embR

/-- No loop of the program needs a variant. -/
abbrev 𝒱₀ : Variants := Variants.none

/-! ## The regions as resources -/

/-- The rows of the staged `x` of `c` meant for `k`; -/
def rowsPts (X : Dev nD → S4096x128.Idx → F .f32) (c k : Dev nD) : sProp 𝕄 :=
  ((c : Thread nD τ).loc cc0_stg0_0) ↦[rowsSet k]{fullShare} (X c)
/-- slot `s` of the gather buffer of `c`; -/
def slotPts (c s : Dev nD) (f : S32x128x128.Idx → F .f32) : sProp 𝕄 :=
  ((c : Thread nD τ).loc cc0_scratch0) ↦[slotSet s]{fullShare} f
/-- row `p` of its first maximum buffer, at share `q`; -/
def row1Pts (c : Dev nD) (p : Fin 8) (q : PosShare TreeShare) (f : S8x128.Idx → F .f32) : sProp 𝕄 :=
  ((c : Thread nD τ).loc cc0_scratch1) ↦[row1Set p]{q} f
/-- row `z` of its second. -/
def row2Pts (c : Dev nD) (z : Fin 4) (q : PosShare TreeShare) (f : S4x128.Idx → F .f32) : sProp 𝕄 :=
  ((c : Thread nD τ).loc cc0_scratch2) ↦[row2Set z]{q} f

omit [FloatOps F] in
/-- The resource can be kept in an invariant. -/
instance rowsPts_storable (X) (c k : Dev nD) : BI.Storable (upEmb : UEmb _ 𝕄) (rowsPts (F := F) X c k) := by unfold rowsPts; infer_instance
omit [FloatOps F] in
/-- The resource can be kept in an invariant. -/
instance slotPts_storable (c s f) : BI.Storable (upEmb : UEmb _ 𝕄) (slotPts (F := F) c s f) := by unfold slotPts; infer_instance
omit [FloatOps F] in
/-- The resource can be kept in an invariant. -/
instance row1Pts_storable (c p q f) : BI.Storable (upEmb : UEmb _ 𝕄) (row1Pts (F := F) c p q f) := by unfold row1Pts; infer_instance
omit [FloatOps F] in
/-- The resource can be kept in an invariant. -/
instance row2Pts_storable (c p q f) : BI.Storable (upEmb : UEmb _ 𝕄) (row2Pts (F := F) c p q f) := by unfold row2Pts; infer_instance

/-- Where transfer `t` of device `c` lands, at any contents: what the target hands `c` before it may send. -/
def landAny : T → Dev nD → sProp 𝕄
  | .inl r, c => iprop(∃ f, slotPts (dest (.inl r) c) c f)
  | .inr (.inl r), c => iprop(∃ f, row1Pts (dest (.inr (.inl r)) c) (pos c) fullShare f)
  | .inr (.inr r), c => iprop(∃ f, row2Pts (dest (.inr (.inr r)) c) (plane c) fullShare f)

variable (X : Dev nD → S4096x128.Idx → F .f32) (Wt : Dev nD → S4096x2048.Idx → F .f32)

/-- What transfer `t` brings device `c`. -/
def landHas : T → Dev nD → sProp 𝕄
  | .inl r, c => slotPts c (orig (.inl r) c) (gath X c)
  | .inr (.inl r), c => row1Pts c (pos (orig (.inr (.inl r)) c)) fullShare (am1 X Wt c)
  | .inr (.inr r), c => row2Pts c (plane (orig (.inr (.inr r)) c)) fullShare (am2 X Wt c)

/-- What transfer `t` reads at its sender, which comes back with the sender's own wait. -/
def srcHas : T → Dev nD → sProp 𝕄
  | .inl r, c => rowsPts X c (dest (.inl r) c)
  | .inr (.inl r), c => row1Pts c (pos c) (shareTok fullShare 7 r) (am1 X Wt c)
  | .inr (.inr r), c => row2Pts c (plane c) (shareTok fullShare 3 r) (am2 X Wt c)

omit [FloatOps F] in
/-- The resource can be kept in an invariant. -/
instance landAny_storable (t : T) (c : Dev nD) : BI.Storable (upEmb : UEmb _ 𝕄) (landAny (F := F) t c) := by
  rcases t with r | r | r <;> (unfold landAny; infer_instance)
/-- The resource can be kept in an invariant. -/
instance landHas_storable (t : T) (c : Dev nD) : BI.Storable (upEmb : UEmb _ 𝕄) (landHas X Wt t c) := by
  rcases t with r | r | r <;> (unfold landHas; infer_instance)
/-- The resource can be kept in an invariant. -/
instance srcHas_storable (t : T) (c : Dev nD) : BI.Storable (upEmb : UEmb _ 𝕄) (srcHas X Wt t c) := by
  rcases t with r | r | r <;> (unfold srcHas; infer_instance)

/-- What the signal of duty `r` hands device `c`: the places, on the signalling device, that `c` sends to. -/
def barPay (c : Dev nD) (r : Fin 31) : sProp 𝕄 :=
  bigSep Finset.univ fun t : T => if dest t c = (to31 r).symm c then landAny t c else iprop(emp)

omit [FloatOps F] in
/-- The resource can be kept in an invariant. -/
instance barPay_storable (c : Dev nD) (r : Fin 31) : BI.Storable (upEmb : UEmb _ 𝕄) (barPay (F := F) c r) := by
  have (t : T) : BI.Storable (upEmb : UEmb _ 𝕄) (if dest t c = (to31 r).symm c then landAny (F := F) t c else iprop(emp)) := by
    split <;> infer_instance
  unfold barPay; infer_instance

/-! ## The cells -/

/-- The credit of a transfer. -/
def N : T → ℕ
  | .inl _ => (mySlot gM 0).view.dmaCredit
  | .inr (.inl _) => (row1 aM 0).view.dmaCredit
  | .inr (.inr _) => (row2 bM 0).view.dmaCredit

/-- Every transfer moves something. -/
theorem N_pos (t : T) : 0 < N t := by
  rcases t with r | r | r <;> exact View.dmaCredit_pos _ (by decide)

/-- The transfer a cell counts. -/
abbrev xf : T ⊕ T → T := Sum.elim id id

/-- The semaphores of a device's transfers: at the sender, at the target. -/
def xSem (c : Dev nD) : T ⊕ T → DmaSem sig
  | .inl t => sSem t c
  | .inr t => iSem t c

/-- The semaphores of a device's cells: its barrier, its transfers' at the sender, its transfers' at the target. -/
def csem (c : Dev nD) : Option (T ⊕ T) → SemLoc sig
  | none => .reg barS
  | some x => .dma (xSem c x)

/-- The cells. -/
abbrev kcell (ck : Dev nD × Option (T ⊕ T)) : GSem nD τ sig := ((ck.1 : Thread nD τ), csem ck.1 ck.2)

/-- What a semaphore is to its device: a cell of the protocol, or none. -/
def kindOf (c : Dev nD) : SemLoc sig → Option (Option (T ⊕ T))
  | .reg _ => some none
  | .dma q => (role c q.val).map some

/-- The same of a cell: only the cores' semaphores are of the protocol. -/
def kind (g : GSem nD τ sig) : Option (Option (T ⊕ T)) := if g.1.2 = .tc then kindOf g.1.1 g.2 else none

/-- The role of a cell is read off the cell. -/
theorem kind_kcell (c : Dev nD) (x : Option (T ⊕ T)) : kind (kcell (c, x)) = some x := by
  unfold kind
  rw [if_pos rfl]
  match x with
  | none => rfl
  | some (.inl t) => show (role c (sSem t c).val).map some = _; rw [role_sSem]; rfl
  | some (.inr t) => show (role c (iSem t c).val).map some = _; rw [role_iSem]; rfl

/-- Different roles on a device have different semaphores, -/
theorem csem_inj (c : Dev nD) : Function.Injective (csem c) := fun x y h => by
  have hx := kind_kcell c x
  have hy := kind_kcell c y
  unfold kcell at hx hy
  rw [show csem (c, x).1 (c, x).2 = csem (c, y).1 (c, y).2 from h] at hx
  exact Option.some.inj (hx.symm.trans hy)

/-- so different cells are different semaphores. -/
theorem kcell_inj : Function.Injective kcell := fun x y h => by
  have h1 : x.1 = y.1 := congrArg (fun g : GSem nD τ sig => g.1.1) h
  obtain ⟨c, x⟩ := x
  obtain ⟨d, y⟩ := y
  obtain rfl : c = d := h1
  exact congrArg (Prod.mk c) (csem_inj c (congrArg Prod.snd h))

/-! ## The schedule -/

/-- One round of every cell: the barrier's 31 signals of one unit each, a transfer's credit on each of its two cells. -/
def sched : Rounds.Schedule (GSem nD τ sig) (Fin 31) 𝕄 where
  duties g r := if r = 0 then (match kind g with | none => ∅ | some none => Finset.univ | some (some _) => {0}) else ∅
  unitless _ := False
  amount g _ _ := match kind g with | some (some x) => N (xf x) | _ => 1
  payload g _ d := match kind g with
    | none => iprop(emp)
    | some none => barPay g.1.1 d
    | some (some (.inl t)) => srcHas X Wt t g.1.1
    | some (some (.inr t)) => landHas X Wt t g.1.1
  amount_pos g _ _ _ := by
    split
    · exact N_pos _
    · exact Nat.one_pos

/-- Every payload of the schedule can be kept in an invariant. -/
instance sched_payload_storable (g : GSem nD τ sig) (r : ℕ) (d : Fin 31) :
    BI.Storable (upEmb : UEmb _ 𝕄) ((sched X Wt).payload g r d) := by
  show BI.Storable upEmb (match kind g with
    | none => iprop(emp)
    | some none => barPay g.1.1 d
    | some (some (.inl t)) => srcHas X Wt t g.1.1
    | some (some (.inr t)) => landHas X Wt t g.1.1)
  split <;> infer_instance

/-- The payload of a transfer's cell. -/
def xpay (c : Dev nD) : T ⊕ T → sProp 𝕄
  | .inl t => srcHas X Wt t c
  | .inr t => landHas X Wt t c

/-- The barrier cell has all 31 duties in its round, -/
theorem duties_bar (c : Dev nD) : (sched X Wt).duties (kcell (c, none)) 0 = Finset.univ := by
  dsimp only [sched]; rw [if_pos rfl, kind_kcell]
/-- a transfer's cell has one, -/
theorem duties_xf (c : Dev nD) (x : T ⊕ T) : (sched X Wt).duties (kcell (c, some x)) 0 = {0} := by
  dsimp only [sched]; rw [if_pos rfl, kind_kcell]
/-- and no cell has any in a later round. -/
theorem duties_later (g : GSem nD τ sig) : ∀ r, 1 ≤ r → (sched X Wt).duties g r = ∅ :=
  fun r hr => by dsimp only [sched]; rw [if_neg fun h => by omega]
/-- A signal of the barrier counts one, -/
theorem amount_bar (c : Dev nD) (d : Fin 31) : (sched X Wt).amount (kcell (c, none)) 0 d = 1 := by
  dsimp only [sched]; rw [kind_kcell]
/-- a transfer counts what it moves. -/
theorem amount_xf (c : Dev nD) (x : T ⊕ T) (d : Fin 31) : (sched X Wt).amount (kcell (c, some x)) 0 d = N (xf x) := by
  dsimp only [sched]; rw [kind_kcell]
/-- The barrier's wait expects 31, -/
theorem expect_bar (c : Dev nD) : (sched X Wt).expect (kcell (c, none)) 0 = 31 := by
  unfold Schedule.expect Schedule.amountOf
  rw [duties_bar, Finset.sum_congr rfl fun d _ => amount_bar X Wt c d, Finset.sum_const, Finset.card_univ, Fintype.card_fin, smul_eq_mul]
/-- a transfer's expects what the transfer moves. -/
theorem expect_xf (c : Dev nD) (x : T ⊕ T) : (sched X Wt).expect (kcell (c, some x)) 0 = N (xf x) := by
  unfold Schedule.expect Schedule.amountOf
  rw [duties_xf, Finset.sum_singleton, amount_xf]
/-- A signal of the barrier carries the slots the signaller lends, -/
theorem payload_bar (c : Dev nD) (d : Fin 31) : (sched X Wt).payload (kcell (c, none)) 0 d = barPay c d := by
  dsimp only [sched]; rw [kind_kcell]
/-- a transfer carries what its wait gives back. -/
theorem payload_xf (c : Dev nD) (x : T ⊕ T) (d : Fin 31) : (sched X Wt).payload (kcell (c, some x)) 0 d = xpay X Wt c x := by
  dsimp only [sched]; rw [kind_kcell]; cases x <;> rfl

/-! ## The handing over of the places to land -/

/-- Of everything over an index one picks, only the picked one is left. -/
theorem bigSep_pick {ι : Type} [DecidableEq ι] [Fintype ι] (p : ι → Prop) [DecidablePred p] (i : ι) (h : ∀ j, p j ↔ j = i) (Φ : ι → sProp 𝕄) :
    (bigSep Finset.univ fun j => if p j then Φ j else iprop(emp)) = Φ i := by
  refine (bigSep_filter Finset.univ p Φ).symm.trans ?_
  rw [show Finset.univ.filter p = {i} from by ext j; simp [h j]]
  exact bigSep_singleton ..

/-- Which step of the all-to-all comes from a given device. -/
theorem to31_symm_eq_iff (r : Fin 31) (c d : Dev nD) (h : d ≠ c) : d = (to31 r).symm c ↔ r = ⟨gap d c, gap_lt h⟩ := by
  rw [Equiv.eq_symm_apply, to31_eq_iff r d c h]

/-- The 31 signals a device receives hand it every place it sends to. -/
theorem barPay_all (c : Dev nD) : (bigSep Finset.univ fun r : Fin 31 => barPay (F := F) c r) = bigSep Finset.univ fun t : T => landAny (F := F) t c := by
  unfold barPay
  rw [bigSep_univ_comm]
  refine bigSep_congr fun t _ => ?_
  exact bigSep_pick _ ⟨gap (dest t c) c, gap_lt (dest_ne t c)⟩ (fun r => to31_symm_eq_iff r c (dest t c) (dest_ne t c)) _

/-- The places of a device others send to are what its 31 signals hand over. -/
theorem barPay_split (c : Dev nD) :
    (bigSep Finset.univ fun t : T => landAny (F := F) t (orig t c)) = bigSep Finset.univ fun r : Fin 31 => barPay (F := F) (to31 r c) r := by
  unfold barPay
  rw [bigSep_univ_comm]
  refine bigSep_congr fun t _ => ?_
  have hne : c ≠ orig t c := fun h => orig_ne t c h.symm
  have hp : ∀ r : Fin 31, dest t (to31 r c) = (to31 r).symm (to31 r c) ↔ r = ⟨gap c (orig t c), gap_lt hne⟩ := fun r => by
    rw [Equiv.symm_apply_apply, ← to31_eq_iff r c (orig t c) hne, ← Equiv.eq_symm_apply]
  have hr : to31 ⟨gap c (orig t c), gap_lt hne⟩ c = orig t c := (to31_eq_iff _ c (orig t c) hne).mpr rfl
  refine Eq.trans ?_ (bigSep_pick _ ⟨gap c (orig t c), gap_lt hne⟩ hp (fun r => landAny (F := F) t (to31 r c))).symm
  rw [hr]

/-! ## What a device owes, and the order of the waits -/

/-- The credit transfer `t` of device `c` owes its target; -/
def xO (c : Dev nD) (t : T) : CellTallies nD τ sig Unit := tallyAt (kcell (dest t c, some (.inr t))) () (N t)
/-- the unit a device owes device `i`'s barrier. -/
def sO (c i : Dev nD) : CellTallies nD τ sig Unit := if i = c then 0 else tallyAt (kcell (i, none)) () 1

/-- The devices a device signals, in program order. -/
def sigList : List (Dev nD) := [0, 1, 2, 3, 4, 5, 6, 7, 8, 9, 10, 11, 12, 13, 14, 15, 16, 17, 18, 19, 20, 21, 22, 23, 24, 25, 26, 27, 28, 29, 30, 31]

/-- What is left owing before the second maximum exchange, the first, the all-to-all, and at launch. -/
def O₃ (c : Dev nD) : CellTallies nD τ sig Unit := (steps3.map fun r => xO c (.inr (.inr r))).sum
/-- Before the first exchange: its arrivals and what is owed after. -/
def O₂ (c : Dev nD) : CellTallies nD τ sig Unit := (steps7.map fun r => xO c (.inr (.inl r))).sum + O₃ c
/-- Before the all-to-all: its arrivals and what is owed after. -/
def O₁ (c : Dev nD) : CellTallies nD τ sig Unit := (steps31.map fun r => xO c (.inl r)).sum + O₂ c
/-- At launch: the signals of the barrier and what is owed after. -/
def O₀ (c : Dev nD) : CellTallies nD τ sig Unit := (sigList.map (sO c)).sum + O₁ c

/-- The indices at which a semaphore is owed: one on a core that runs the kernel, none elsewhere. -/
def L (g : GSem nD τ sig) : Finset Unit := if g.1.2 = .tc then {()} else ∅

/-- The order: barrier, all-to-all landings, landings of the first maximum exchange, of the second; everything else below. -/
def lv (g : GSem nD τ sig) (_ : Unit) : ℕ := match kind g with
  | some none => 1
  | some (some (.inr (.inl _))) => 2
  | some (some (.inr (.inr (.inl _)))) => 3
  | some (some (.inr (.inr (.inr _)))) => 4
  | _ => 0

/-- Nothing is owed on another kind of core. -/
theorem L_of_ne (g : GSem nD τ sig) (h : g.1.2 ≠ .tc) : L g = ∅ := if_neg h
/-- The one index of a semaphore of the kernel's core. -/
theorem L_tc (c : Dev nD) (sm : SemLoc sig) : L ((c : Thread nD τ), sm) = {()} := if_pos rfl

/-- All that is owed is owed to cores' cells above level `n`. -/
def Above (n : ℕ) (O : CellTallies nD τ sig Unit) : Prop := ∀ g u, 0 < O g u → L g = {()} ∧ n < lv g ()

/-- Owing nothing is above every level; -/
theorem Above.zero (n : ℕ) : Above n 0 := fun g u h => absurd h (Nat.lt_irrefl 0)
/-- so is the sum of two debts above it, -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- the sum of a list of them, -/
theorem Above.sum {α : Type} {n : ℕ} (f : α → CellTallies nD τ sig Unit) (h : ∀ a, Above n (f a)) (l : List α) : Above n (l.map f).sum := by
  induction l with
  | nil => exact Above.zero n
  | cons a l ih => rw [List.map_cons, List.sum_cons]; exact (h a).add ih
/-- and a tally at a cell above it. -/
theorem Above.tally {n : ℕ} (c : Dev nD) (x : Option (T ⊕ T)) (k : ℕ) (h : n < lv (kcell (c, x)) ()) : Above n (tallyAt (kcell (c, x)) () k) := fun g u hg => by
  rw [tallyAt_apply] at hg
  by_cases hgu : g = kcell (c, x) ∧ u = ()
  · rw [hgu.1]; exact ⟨L_tc _ _, h⟩
  · rw [if_neg hgu] at hg; exact absurd hg (Nat.lt_irrefl 0)

/-- The level of a cell, by its role. -/
theorem lv_kcell (c : Dev nD) (x : Option (T ⊕ T)) : lv (kcell (c, x)) () = (match x with
    | none => 1 | some (.inr (.inl _)) => 2 | some (.inr (.inr (.inl _))) => 3 | some (.inr (.inr (.inr _))) => 4 | _ => 0) := by
  unfold lv; rw [kind_kcell]
  match x with
  | none => rfl
  | some (.inl t) => rfl
  | some (.inr (.inl _)) => rfl
  | some (.inr (.inr (.inl _))) => rfl
  | some (.inr (.inr (.inr _))) => rfl

/-- What is owed before the second exchange is above level 3; -/
theorem above_O₃ (c : Dev nD) : Above 3 (O₃ c) := Above.sum _ (fun r => Above.tally _ _ _ (by rw [lv_kcell]; exact Nat.lt_succ_self _)) _
/-- what is above a level is above a lower one; -/
theorem Above.mono {n m : ℕ} (h : n ≤ m) {O : CellTallies nD τ sig Unit} (hO : Above m O) : Above n O := fun g u hg =>
  ⟨(hO g u hg).1, lt_of_le_of_lt h (hO g u hg).2⟩
/-- what is owed before the first exchange is above level 2; -/
theorem above_O₂ (c : Dev nD) : Above 2 (O₂ c) :=
  (Above.sum _ (fun r => Above.tally _ _ _ (by rw [lv_kcell]; exact Nat.lt_succ_self _)) _).add ((above_O₃ c).mono (by decide))
/-- before the all-to-all, above level 1; -/
theorem above_O₁ (c : Dev nD) : Above 1 (O₁ c) :=
  (Above.sum _ (fun r => Above.tally _ _ _ (by rw [lv_kcell]; exact Nat.lt_succ_self _)) _).add ((above_O₂ c).mono (by decide))
/-- at launch, above level 0. -/
theorem above_O₀ (c : Dev nD) : Above 0 (O₀ c) :=
  (Above.sum _ (fun r => by
    unfold sO; split
    · exact Above.zero 0
    · exact Above.tally _ _ _ (by rw [lv_kcell]; exact Nat.lt_succ_self _)) _).add ((above_O₁ c).mono (by decide))

/-- A wait on a cell below everything owed is allowed. -/
theorem mayWait_above (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [(h g u hg).1]; exact Finset.mem_singleton_self _)
    (fun p hp => by rw [Finset.mem_singleton.mp hp])
    (fun g u hg => (h g u hg).2)

end Cert.A2A

end
-- ==== Proof.Steps.lean ====
/-
One step of each exchange: the rule by which a device signals, sends, waits for a landing, waits for its own copy; and the
rules for a run of such steps.
-/
module

public import proofs.«01_k».proof.Proof.Protocol

@[expose] public section

noncomputable section

namespace Cert.A2A

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-- The weakest precondition of a core's program. -/
abbrev WP (c : Dev nD) (p : CoreProg F PUnit) (Q : PUnit → sProp 𝕄) : sProp 𝕄 :=
  wp frame (wpE (defs₀ (F := F)) 𝒱₀ (c : Thread nD τ) none) Set.univ p Q

/-! ## Runs of steps -/

/-- A run of steps, each turning its own resource `Pre i` into `Post i` under the invariant of the steps left. -/
theorem run_steps {ι : Type} [DecidableEq ι] (c : Dev nD) (R : sProp 𝕄) [BI.Persistent R] (step : ι → CoreProg F PUnit → CoreProg F PUnit)
    (Inv : List ι → sProp 𝕄) (Pre Post : ι → sProp 𝕄) (Q : PUnit → sProp 𝕄)
    (h : ∀ i l K, iprop(R ∗ Inv (i :: l) ∗ Pre i) ⊢ iprop(((Inv l ∗ Post i) -∗ WP c K Q) -∗ WP c (step i K) Q))
    (k : CoreProg F PUnit) : ∀ l : List ι, l.Nodup →
    iprop(R ∗ Inv l ∗ bigSep l.toFinset Pre) ⊢ iprop(((Inv [] ∗ bigSep l.toFinset Post) -∗ WP c k Q) -∗ WP c (l.foldr step k) Q)
  | [], _ => by
    rw [List.toFinset_nil, bigSep_empty, bigSep_empty]
    iintro ⟨#HR, HI, -⟩ Hk
    iapply Hk
    isplitl [HI]; · iexact HI
    iempintro
  | i :: l, hn => by
    have hi : i ∉ l.toFinset := fun hm => (List.nodup_cons.mp hn).1 (List.mem_toFinset.mp hm)
    have e1 : bigSep (i :: l).toFinset Pre = iprop(Pre i ∗ bigSep l.toFinset Pre) := by rw [List.toFinset_cons]; exact bigSep_insert hi
    have e2 : bigSep (i :: l).toFinset Post = iprop(Post i ∗ bigSep l.toFinset Post) := by rw [List.toFinset_cons]; exact bigSep_insert hi
    rw [e1, e2]
    iintro ⟨#HR, HI, Hp, Hps⟩ Hk
    iapply (h i l (l.foldr step k)) $$ [HI Hp]
    · isplitr; · iexact HR
      isplitl [HI] <;> iassumption
    iintro ⟨HI, Hq⟩
    iapply (run_steps c R step Inv Pre Post Q h k l (List.nodup_cons.mp hn).2) $$ [HI Hps]
    · isplitr; · iexact HR
      isplitl [HI] <;> iassumption
    iintro ⟨HI, Hqs⟩
    iapply Hk
    isplitl [HI]; · iexact HI
    isplitl [Hq] <;> iassumption

/-- The same of steps that pass a value on. -/
theorem run_fold {ι A : Type} [DecidableEq ι] (c : Dev nD) (R : sProp 𝕄) [BI.Persistent R] (step : ι → (A → CoreProg F PUnit) → A → CoreProg F PUnit)
    (f : A → ι → A) (Inv : List ι → sProp 𝕄) (Pre Post : ι → sProp 𝕄) (Q : PUnit → sProp 𝕄)
    (h : ∀ i l K a, iprop(R ∗ Inv (i :: l) ∗ Pre i) ⊢ iprop(((Inv l ∗ Post i) -∗ WP c (K (f a i)) Q) -∗ WP c (step i K a) Q))
    (k : A → CoreProg F PUnit) : ∀ (l : List ι) (a : A), l.Nodup →
    iprop(R ∗ Inv l ∗ bigSep l.toFinset Pre) ⊢ iprop(((Inv [] ∗ bigSep l.toFinset Post) -∗ WP c (k (l.foldl f a)) Q) -∗ WP c (l.foldr step k a) Q)
  | [], a, _ => by
    rw [List.toFinset_nil, bigSep_empty, bigSep_empty]
    iintro ⟨#HR, HI, -⟩ Hk
    iapply Hk
    isplitl [HI]; · iexact HI
    iempintro
  | i :: l, a, hn => by
    have hi : i ∉ l.toFinset := fun hm => (List.nodup_cons.mp hn).1 (List.mem_toFinset.mp hm)
    have e1 : bigSep (i :: l).toFinset Pre = iprop(Pre i ∗ bigSep l.toFinset Pre) := by rw [List.toFinset_cons]; exact bigSep_insert hi
    have e2 : bigSep (i :: l).toFinset Post = iprop(Post i ∗ bigSep l.toFinset Post) := by rw [List.toFinset_cons]; exact bigSep_insert hi
    rw [e1, e2]
    iintro ⟨#HR, HI, Hp, Hps⟩ Hk
    iapply (h i l (l.foldr step k) a) $$ [HI Hp]
    · isplitr; · iexact HR
      isplitl [HI] <;> iassumption
    iintro ⟨HI, Hq⟩
    iapply (run_fold c R step f Inv Pre Post Q h k l (f a i) (List.nodup_cons.mp hn).2) $$ [HI Hps]
    · isplitr; · iexact HR
      isplitl [HI] <;> iassumption
    iintro ⟨HI, Hqs⟩
    iapply Hk
    isplitl [HI]; · iexact HI
    isplitl [Hq] <;> iassumption

/-! ## One family member apart -/

/-- A family over `B` is one member and the rest, named by `R`. -/
theorem bigSep_others {R B : Type} [Fintype R] [DecidableEq R] [Fintype B] [DecidableEq B] (b : B) (g : R → B) (hg : Function.Injective g)
    (hb : ∀ r, g r ≠ b) (hc : Fintype.card B = Fintype.card R + 1) (Φ : B → sProp 𝕄) :
    bigSep Finset.univ Φ = iprop(Φ b ∗ bigSep Finset.univ fun r => Φ (g r)) := by
  have hn : b ∉ (Finset.univ : Finset R).map ⟨g, hg⟩ := fun h => by
    obtain ⟨r, -, hr⟩ := Finset.mem_map.mp h
    exact hb r hr
  have hu : insert b ((Finset.univ : Finset R).map ⟨g, hg⟩) = Finset.univ := by
    apply Finset.eq_univ_of_card
    rw [Finset.card_insert_of_notMem hn, Finset.card_map, Finset.card_univ, hc]
  rw [← hu, bigSep_insert hn, bigSep_map]
  rfl

/-- Different steps of the all-to-all go to different devices, -/
theorem to31_inj (c : Dev nD) : Function.Injective fun r : Fin 31 => dest (.inl r) c := fun r r' h => by
  have h := congrArg Fin.val h
  have h1 := r.isLt; have h2 := r'.isLt; have h3 := c.isLt
  change (c.val + r.val + 1) % 32 = (c.val + r'.val + 1) % 32 at h
  apply Fin.ext; simp only [nD] at *; omega
/-- and come from different devices. -/
theorem from31_inj (c : Dev nD) : Function.Injective fun r : Fin 31 => orig (.inl r) c := fun r r' h => by
  have h := congrArg Fin.val h
  have h1 := r.isLt; have h2 := r'.isLt; have h3 := c.isLt
  change (c.val + 31 - r.val) % 32 = (c.val + 31 - r'.val) % 32 at h
  apply Fin.ext; simp only [nD] at *; omega
/-- Different steps of the first exchange come from different places, -/
theorem from7_inj (c : Dev nD) : Function.Injective fun r : Fin 7 => pos (orig (.inr (.inl r)) c) := by revert c; decide +kernel
/-- of the second from different planes. -/
theorem from3_inj (c : Dev nD) : Function.Injective fun r : Fin 3 => plane (orig (.inr (.inr r)) c) := by revert c; decide +kernel
/-- No step of the first exchange comes from the device's own place, -/
theorem from7_ne (c : Dev nD) (r : Fin 7) : pos (orig (.inr (.inl r)) c) ≠ pos c := by revert c r; decide +kernel
/-- and none of the second from its own plane. -/
theorem from3_ne (c : Dev nD) (r : Fin 3) : plane (orig (.inr (.inr r)) c) ≠ plane c := by revert c r; decide +kernel

/-! ## The records: every cell's invariant, and that its round is reached -/

variable (X : Dev nD → S4096x128.Idx → F .f32) (Wt : Dev nD → S4096x2048.Idx → F .f32)

/-- The names the cells' invariants are allocated at. -/
abbrev Names : Type := Dev nD × Option (T ⊕ T) → ℕ

/-- What everyone may know of a cell: its invariant, and that its round is reached. -/
def recordAt (K : Names) (ck : Dev nD × Option (T ⊕ T)) : sProp 𝕄 :=
  iprop(cellInv ER (sched X Wt) (K ck) (kcell ck) ∗ reached ER (kcell ck) 0)
/-- It can be known any number of times. -/
instance recordAt_persistent (K : Names) (ck) : BI.Persistent (recordAt X Wt K ck) := by unfold recordAt; infer_instance
/-- The order of the waits, as a fact of the run. -/
def levs : sProp 𝕄 := levAts L lv
/-- The levels can be known any number of times. -/
instance levs_persistent : BI.Persistent (levs (F := F)) := by unfold levs; infer_instance
/-- Everything everyone may know. -/
def records (K : Names) : sProp 𝕄 := iprop((bigSep Finset.univ fun ck => recordAt X Wt K ck) ∗ levs (F := F))
/-- It can be known any number of times. -/
instance records_persistent (K : Names) : BI.Persistent (records X Wt K) := by unfold records; infer_instance

/-- The records hold that of every cell, -/
theorem records_all (K : Names) : records X Wt K ⊢ bigSep Finset.univ fun ck => recordAt X Wt K ck := by
  unfold records
  iintro ⟨H, -⟩
  iexact H
/-- and so that of any one. -/
theorem records_at (K : Names) (ck : Dev nD × Option (T ⊕ T)) :
    records X Wt K ⊢ iprop(cellInv ER (sched X Wt) (K ck) (kcell ck) ∗ reached ER (kcell ck) 0) := by
  classical
  exact (records_all X Wt K).trans (bigSep_elim (Φ := fun ck => recordAt X Wt K ck) (Finset.mem_univ ck))
/-- A wait below everything owed is allowed. -/
theorem records_mayWait (K : Names) (c : Dev nD) (sm : SemLoc sig) (O : CellTallies nD τ sig Unit) (h : Above (lv ((c : Thread nD τ), sm) ()) O) :
    records X Wt K ⊢ MayWait (c : Thread nD τ) sm () O := by
  unfold records levs
  iintro ⟨-, H⟩
  iapply (mayWait_above c sm O h)
  iexact H

/-- What the device owes, whatever it has waited for. -/
def owesE (c : Dev nD) (O : CellTallies nD τ sig Unit) : sProp 𝕄 := iprop(∃ W, owes (c : Thread nD τ) O W)

/-- The one duty of a transfer's cell is one of its round. -/
theorem mem_xf (c : Dev nD) (x : T ⊕ T) : 0 ∈ (sched X Wt).duties (kcell (c, some x)) 0 := by rw [duties_xf]; exact Finset.mem_singleton_self _

/-! ## Sending -/

/-- What transfer `t` of device `c` spends: its source, its landing place, and the two duties it pays. -/
def sendPre (t : T) (c : Dev nD) : sProp 𝕄 :=
  iprop(srcHas X Wt t c ∗ landAny t c ∗ dutyTok ER (kcell (c, some (.inl t))) 0 0 ∗ dutyTok ER (kcell (dest t c, some (.inr t))) 0 0)
/-- What it earns: the right to wait for its source. -/
def sendPost (t : T) (c : Dev nD) : sProp 𝕄 := cred (tallyAt (kcell (c, some (.inl t))) () (N t))

/-- A remote copy that is transfer `t`, whatever memrefs it is written with. -/
theorem wp_xfer (t : T) (K : Names) (c n : Dev nD) (hn : n = dest t c) (sS sR : DmaSem sig) (hS : sS = sSem t c) (hR : sR = iSem t (dest t c))
    {s : Shape} {e : EltTy} {src : Memref sig .tc .vmem s e} {dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (.dma sR) (.remote (Dev.tc n : Thread nD τ) dst (.dma sS) hsc)}
    {Q : PUnit → sProp 𝕄} {k : PUnit → CoreProg F PUnit} {q : PosShare TreeShare}
    (fs : Buf (Elt F) (src.view.loc (c : Thread nD τ)))
    (hN : dst.view.dmaCredit = N t) (O : CellTallies nD τ sig Unit)
    (hpay₁ : srcHas X Wt t c = (src.view.loc (c : Thread nD τ) ↦[src.view.set]{q} fs : sProp 𝕄))
    (hland : landAny t c ⊢ (iprop(∃ fd, dst.view.loc (dest t c : Thread nD τ) ↦[dst.view.set]{fullShare} fd) : sProp 𝕄))
    (hpay₂ : ∀ fd, (dst.view.loc (dest t c : Thread nD τ) ↦[dst.view.set]{fullShare} (dst.view.write (Elt F) fd (src.view.read (Elt F) fs) Finset.univ) : sProp 𝕄)
      ⊢ landHas X Wt t (dest t c)) :
    iprop(records X Wt K ∗ owesE c (xO c t + O) ∗ sendPre X Wt t c)
      ⊢ iprop(((owesE c O ∗ sendPost t c) -∗ WP c (k ⟨⟩) Q)
          -∗ WP c (.op (.enqueueDma src (.remote (Dev.tc n : Thread nD τ) dst (.dma sS) hsc) (.dma sR) hsrc hdst hsem) k) Q) := by
  subst hn hS hR
  unfold sendPre owesE
  rw [hpay₁]
  iintro ⟨#HR, ⟨%W, HO⟩, Hs, Hd, Ht1, Ht2⟩ Hk
  ihave Hd := hland $$ Hd
  icases Hd with ⟨%fd, Hd⟩
  ihave #H1 := (records_at X Wt K (c, some (.inl t))) $$ HR
  ihave #H2 := (records_at X Wt K (dest t c, some (.inr t))) $$ HR
  icases H1 with ⟨#HI1, #Hr1⟩
  icases H2 with ⟨#HI2, #Hr2⟩
  iapply (Rounds.wp_send_pointsTo 𝒱₀ ER (sched X Wt) (c : Thread nD τ) none (κ₁ := K (c, some (.inl t))) (κ₂ := K (dest t c, some (.inr t)))
    (r₁ := 0) (r₂ := 0) (d₁ := 0) (d₂ := 0) (fd := fd)
    (mem_xf X Wt c (.inl t)) (mem_xf X Wt (dest t c) (.inr t))
    () () (N t) ((View.amount_dma _ _).trans hN) (amount_xf X Wt c (.inl t) 0) (amount_xf X Wt (dest t c) (.inr t) 0) O (add_comm _ _) (W := W)
    (Entails.of_eq (hpay₁.symm.trans (payload_xf X Wt c (.inl t) 0).symm))
    ((hpay₂ fd).trans (Entails.of_eq (payload_xf X Wt (dest t c) (.inr t) 0).symm)))
    $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W; iexact HO
  · unfold sendPost; iexact Hc

/-! ## Waiting -/

/-- What a wait on a transfer's cell spends, -/
def waitPre (x : T ⊕ T) (c : Dev nD) : sProp 𝕄 :=
  iprop(cred (tallyAt (kcell (c, some x)) () (N (xf x))) ∗ atPos ER (kcell (c, some x)) 0 ∅ 0)
/-- and brings: what the cell carries, and the cell closed. -/
def waitPost (x : T ⊕ T) (c : Dev nD) : sProp 𝕄 := iprop(xpay X Wt c x ∗ semVal (kcell (c, some x)) 0)

/-- A wait on a transfer's cell: its payload comes out and the cell closes. -/
theorem wp_waitXf (x : T ⊕ T) (K : Names) (c : Dev nD) (sm : DmaSem sig) (hS : sm = xSem c x)
    {s s' : Shape} {e e' : EltTy} {src : Memref sig .tc .vmem s e} {dst : Memref sig .tc .vmem s' e'}
    {hsrc : src.view.WordExact} {hdst : dst.view.WordExact}
    {Q : PUnit → sProp 𝕄} {k : PUnit → CoreProg F PUnit}
    (hN : dst.view.dmaCredit = N (xf x)) (O : CellTallies nD τ sig Unit) (hO : Above (lv (kcell (c, some x)) ()) O) :
    iprop(records X Wt K ∗ owesE c O ∗ waitPre x c)
      ⊢ iprop(((owesE c O ∗ waitPost X Wt x c) -∗ WP c (k ⟨⟩) Q) -∗ WP c (.op (.waitDma2 sm src dst hsrc hdst) k) Q) := by
  subst hS
  have hM : records X Wt K ⊢ MayWait (c : Thread nD τ) (SemLoc.dma (xSem c x)) () O :=
    records_mayWait X Wt K c (SemLoc.dma (xSem c x)) O hO
  have hrest : bigSep ((sched X Wt).duties ((c : Thread nD τ), SemLoc.dma (xSem c x)) 0 \ ∅) (fun d => (sched X Wt).payload ((c : Thread nD τ), SemLoc.dma (xSem c x)) 0 d)
      = xpay X Wt c x := by
    show bigSep ((sched X Wt).duties (kcell (c, some x)) 0 \ ∅) (fun d => (sched X Wt).payload (kcell (c, some x)) 0 d) = xpay X Wt c x
    rw [Finset.sdiff_empty, duties_xf, bigSep_singleton, payload_xf]
  unfold owesE waitPre waitPost
  iintro ⟨#HR, ⟨%W, HO⟩, Hc, Hat⟩ Hk
  ihave #H1 := (records_at X Wt K (c, some x)) $$ HR
  icases H1 with ⟨#HI, -⟩
  iapply (Rounds.wp_wait_rest_token 𝒱₀ ER (sched X Wt) (c : Thread nD τ) none (κ := K (c, some x))
      (wpE_waitDma2_eq 𝒱₀ (c : Thread nD τ) none Set.univ) (Set.mem_univ _) () (O := O) (W := W) (R := 0) (m := 0) (T := ∅)
      ((Nat.zero_add _).trans (hN.trans (expect_xf X Wt c x).symm))) $$ [Hc HO Hat]
  · rw [hN]
    isplitr; · iexact HI
    isplitl [Hc]; · iexact Hc
    isplitl [HO]; · iexact HO
    isplitr; · iapply hM; iexact HR
    iexact Hat
  iintro ⟨HO, Hat, -, Hpay⟩
  ihave Hpay := (Entails.of_eq hrest) $$ Hpay
  imod (Rounds.cell_close ER (sched X Wt) (Set.mem_univ (K (c, some x))) (fun h => h) (R := 0 + 1) (duties_later X Wt (kcell (c, some x)))) $$ [Hat] with Hz
  · isplitr; · iexact HI
    iexact Hat
  iapply Hk
  isplitl [HO]; · iexists _; iexact HO
  isplitl [Hpay] <;> iassumption

/-! ## Signalling -/

/-- What the signal to device `i` spends: its duty's token and the places of the signaller that `i` sends to. -/
def sigPre (c i : Dev nD) : sProp 𝕄 :=
  if h : c = i then iprop(emp) else iprop(dutyTok ER (kcell (i, none)) 0 ⟨gap c i, gap_lt h⟩ ∗ barPay i ⟨gap c i, gap_lt h⟩)

/-- A guarded signal runs as the listed one. -/
theorem sig_entry (p : Prop) [Decidable p] (dv : ℕ) (hlt : p → dv < nD) (i d : Dev nD) (hp : p ↔ i ≠ d) (hv : dv = i.val) (K : CoreProg F PUnit) :
    (if h : p then semSignalWord (⟨dv, hlt h⟩ : Dev nD) barS 1#32 >>= fun _ => K else K)
      = if i = d then K else (semSignalWord i barS 1#32 >>= fun _ => K) := by
  subst hv
  by_cases h : p
  · rw [dif_pos h, if_neg (hp.mp h)]
  · rw [dif_neg h, if_pos (Classical.not_not.mp fun hn => h (hp.mpr hn))]

/-- A vector that agrees with a function, entry by entry. -/
theorem vec_eq {n : ℕ} {P : Type 1} {a : P} {v : Fin n → P} {f : Fin (n + 1) → P} (h₀ : a = f 0) (h : ∀ i : Fin n, v i = f i.succ) :
    ∀ i, Matrix.vecCons a v i = f i := Fin.cases h₀ h

/-- A step of the barrier's signals: nothing to oneself, a unit to every other device. -/
theorem sigStep_eq (d : Dev nD) (i : Fin 32) (K : CoreProg F PUnit) :
    sigStep d i K = if i = d then K else (semSignalWord (i : Dev nD) barS 1#32 >>= fun _ => K) := by
  unfold sigStep
  revert i
  iterate 32 refine vec_eq (f := fun i => if _ = d then K else _) (sig_entry _ _ _ _ d (by revert d; decide +kernel) (by decide) K) ?_
  exact fun i => i.elim0

/-- A step of the list of signals: to another device it pays a duty there, to the device itself it is skipped. -/
theorem wp_sigStep (K : Names) (c i : Dev nD) (l : List (Dev nD)) (O : CellTallies nD τ sig Unit) {Q : PUnit → sProp 𝕄} (k : CoreProg F PUnit) :
    iprop(records X Wt K ∗ owesE c (((i :: l).map (sO c)).sum + O) ∗ sigPre c i)
      ⊢ iprop(((owesE c ((l.map (sO c)).sum + O) ∗ emp) -∗ WP c k Q) -∗ WP c (sigStep c i k) Q) := by
  rw [sigStep_eq, List.map_cons, List.sum_cons]
  unfold owesE sigPre sO
  by_cases h : c = i
  · subst h
    rw [dif_pos rfl, if_pos rfl, if_pos rfl, zero_add]
    iintro ⟨-, HO, -⟩ Hk
    iapply Hk
    isplitl [HO]; · iexact HO
    iempintro
  · rw [dif_neg h, if_neg (fun e => h e.symm), if_neg (fun e => h e.symm)]
    simp only [semSignalWord, Prog.lift, Prog.bind_op, Prog.bind_ret]
    iintro ⟨#HR, ⟨%W, HO⟩, Ht, Hpay⟩ Hk
    ihave #H1 := (records_at X Wt K (i, none)) $$ HR
    icases H1 with ⟨#HI, #Hr⟩
    iapply (Rounds.wp_signal 𝒱₀ ER (sched X Wt) (c : Thread nD τ) none (dst := (i : Thread nD τ)) (κ := K (i, none))
      (d := ⟨gap c i, gap_lt h⟩) (by rw [show (sched X Wt).duties ((i : Thread nD τ), SemLoc.reg barS) 0 = Finset.univ from duties_bar X Wt i]; exact Finset.mem_univ _)
      ((amount_bar X Wt i _).trans (by decide)) () ((l.map (sO c)).sum + O)
      ((add_assoc _ _ _).trans (add_comm _ _))) $$ [HO Ht Hpay]
    · isplitr; · iexact HI
      isplitl [HO]; · iexact HO
      isplitl [Ht]; · iexact Ht
      isplitl [Hpay]; · rw [show (sched X Wt).payload ((i : Thread nD τ), SemLoc.reg barS) 0 ⟨gap c i, gap_lt h⟩ = _ from payload_bar X Wt i ⟨gap c i, gap_lt h⟩]; iexact Hpay
      iexact Hr
    iintro HO
    iapply Hk
    isplitl [HO]; · iexists W; iexact HO
    iempintro

end Cert.A2A

end
-- ==== Proof.Exchange.lean ====
module
public import proofs.«01_k».proof.Proof.Steps

/-!
# The steps of the three exchanges
-/

@[expose] public section

noncomputable section

namespace Cert.A2A

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

variable (X : Dev nD → S4096x128.Idx → F .f32) (Wt : Dev nD → S4096x2048.Idx → F .f32)

/-! ## A run of sends, a run of waits -/

/-- A run of sends: what they owe is paid, the right to wait for each source is earned. -/
theorem run_sends {ι : Type} [DecidableEq ι] [Fintype ι] (inj : ι → T) (K : Names) (c : Dev nD) (step : ι → CoreProg F PUnit → CoreProg F PUnit)
    (O : CellTallies nD τ sig Unit) (Q : PUnit → sProp 𝕄)
    (h : ∀ i k O', iprop(records X Wt K ∗ owesE c (xO c (inj i) + O') ∗ sendPre X Wt (inj i) c)
      ⊢ iprop(((owesE c O' ∗ sendPost (inj i) c) -∗ WP c k Q) -∗ WP c (step i k) Q))
    (l : List ι) (hn : l.Nodup) (hu : l.toFinset = Finset.univ) (k : CoreProg F PUnit) :
    iprop(records X Wt K ∗ owesE c ((l.map fun i => xO c (inj i)).sum + O) ∗ bigSep Finset.univ fun i => sendPre X Wt (inj i) c)
      ⊢ iprop(((owesE c O ∗ bigSep Finset.univ fun i => sendPost (F := F) (inj i) c) -∗ WP c k Q) -∗ WP c (l.foldr step k) Q) := by
  have H := run_steps c (records X Wt K) step (fun l => owesE c ((l.map fun i => xO c (inj i)).sum + O)) (fun i => sendPre X Wt (inj i) c)
    (fun i => sendPost (inj i) c) Q (fun i l k => by rw [List.map_cons, List.sum_cons, add_assoc]; exact h i k _) k l hn
  rw [hu, List.map_nil, List.sum_nil, zero_add] at H
  exact H

/-- A run of waits on transfers' cells, nothing else kept. -/
theorem run_waits {ι : Type} [DecidableEq ι] [Fintype ι] (inj : ι → T ⊕ T) (K : Names) (c : Dev nD) (step : ι → CoreProg F PUnit → CoreProg F PUnit)
    (O : CellTallies nD τ sig Unit) (Q : PUnit → sProp 𝕄)
    (h : ∀ i k, iprop(records X Wt K ∗ owesE c O ∗ waitPre (inj i) c)
      ⊢ iprop(((owesE c O ∗ waitPost X Wt (inj i) c) -∗ WP c k Q) -∗ WP c (step i k) Q))
    (l : List ι) (hn : l.Nodup) (hu : l.toFinset = Finset.univ) (k : CoreProg F PUnit) :
    iprop(records X Wt K ∗ owesE c O ∗ bigSep Finset.univ fun i => waitPre (F := F) (inj i) c)
      ⊢ iprop(((owesE c O ∗ bigSep Finset.univ fun i => waitPost X Wt (inj i) c) -∗ WP c k Q) -∗ WP c (l.foldr step k) Q) := by
  have H := run_steps c (records X Wt K) step (fun _ => owesE c O) (fun i => waitPre (inj i) c)
    (fun i => waitPost X Wt (inj i) c) Q (fun i l k => h i k) k l hn
  rw [hu] at H
  exact H

/-- No step is listed twice in the all-to-all, -/
theorem steps31_nodup : steps31.Nodup := by decide
/-- nor in the first exchange, -/
theorem steps7_nodup : steps7.Nodup := by decide
/-- nor in the second; -/
theorem steps3_nodup : steps3.Nodup := by decide
/-- every step is listed in the all-to-all, -/
theorem steps31_univ : steps31.toFinset = Finset.univ := by decide
/-- in the first exchange, -/
theorem steps7_univ : steps7.toFinset = Finset.univ := by decide
/-- and in the second. -/
theorem steps3_univ : steps3.toFinset = Finset.univ := by decide
/-- No device is signalled twice, -/
theorem sigList_nodup : sigList.Nodup := by decide
/-- and every device is listed. -/
theorem sigList_univ : sigList.toFinset = Finset.univ := by decide

/-! ## The all-to-all -/

/-- All sends of the all-to-all, one after another; -/
theorem xSends (K : Names) (c : Dev nD) (Q : PUnit → sProp 𝕄) (k : CoreProg F PUnit) :
    iprop(records X Wt K ∗ owesE c (O₁ c) ∗ bigSep Finset.univ fun r : Fin 31 => sendPre X Wt (.inl r) c)
      ⊢ iprop(((owesE c (O₂ c) ∗ bigSep Finset.univ fun r : Fin 31 => sendPost (F := F) (.inl r) c) -∗ WP c k Q)
          -∗ WP c (steps31.foldr (xSend xM gM cc0_scratch3 cc0_scratch4 c) k) Q) :=
  run_sends X Wt (fun r : Fin 31 => (.inl r : T)) K c (xSend xM gM cc0_scratch3 cc0_scratch4 c) (O₂ c) Q
    (fun r k O' => wp_xfer X Wt (.inl r) K c (a2aDev r c) (a2aDev_eq r c) (xSendS cc0_scratch3 c r) (xRecvS cc0_scratch4 c) (k := fun _ => k) rfl (rSem_eq (.inl r) c) (src := xRows xM c r) (dst := mySlot gM c) (q := fullShare) (X c) rfl O'
      (by rw [xRows_set]; rfl)
      (by rw [mySlot_set]; exact Entails.rfl)
      (fun fd => by
        rw [mySlot_set]
        show _ ⊢ slotPts (dest (.inl r) c) (orig (.inl r) (dest (.inl r) c)) (gath X (dest (.inl r) c))
        rw [show orig (.inl r) (dest (.inl r) c) = c from Equiv.symm_apply_apply _ _]
        exact Entails.of_eq (pointsTo_congr fun i hi => slot_landed X c (dest (.inl r) c) r rfl fd i hi)))
    steps31 steps31_nodup steps31_univ k

/-- and the waits for them to have left. -/
theorem xDones (K : Names) (c : Dev nD) (Q : PUnit → sProp 𝕄) (k : CoreProg F PUnit) :
    iprop(records X Wt K ∗ owesE c (O₂ c) ∗ bigSep Finset.univ fun r : Fin 31 => waitPre (F := F) (.inl (.inl r)) c)
      ⊢ iprop(((owesE c (O₂ c) ∗ bigSep Finset.univ fun r : Fin 31 => waitPost X Wt (.inl (.inl r)) c) -∗ WP c k Q)
          -∗ WP c (steps31.foldr (xDone xM gM cc0_scratch3 c) k) Q) :=
  run_waits X Wt (fun r : Fin 31 => (.inl (.inl r) : T ⊕ T)) K c (xDone xM gM cc0_scratch3 c) (O₂ c) Q
    (fun r k => wp_waitXf X Wt (.inl (.inl r)) K c (xSendS cc0_scratch3 c r) (k := fun _ => k) rfl (src := mySlot gM c) (dst := xRows xM c r) rfl (O₂ c) (by rw [lv_kcell]; exact (above_O₂ c).mono (Nat.zero_le _)))
    steps31 steps31_nodup steps31_univ k

/-- The receives of the all-to-all, each with the product of what it brought. -/
theorem xRecvs (K : Names) (c : Dev nD) (Q : PUnit → sProp 𝕄) (k : FVec F S128x2048 .f32 → CoreProg F PUnit) (a : FVec F S128x2048 .f32) :
    iprop(records X Wt K ∗ (owesE c (O₂ c) ∗ (((c : Thread nD τ).loc cc0_stg1_0) ↦{fullShare} (Wt c)))
        ∗ bigSep Finset.univ fun r : Fin 31 => waitPre (F := F) (.inr (.inl r)) c)
      ⊢ iprop((((owesE c (O₂ c) ∗ (((c : Thread nD τ).loc cc0_stg1_0) ↦{fullShare} (Wt c)))
          ∗ bigSep Finset.univ fun r : Fin 31 => waitPost X Wt (.inr (.inl r)) c) -∗ WP c (k (steps31.foldl (accStep X Wt c) a)) Q)
          -∗ WP c (steps31.foldr (xRecv xM wM gM cc0_scratch4 c) k a) Q) := by
  have H := run_fold c (records X Wt K) (xRecv xM wM gM cc0_scratch4 c) (accStep X Wt c)
    (fun _ => iprop(owesE c (O₂ c) ∗ (((c : Thread nD τ).loc cc0_stg1_0) ↦{fullShare} (Wt c))))
    (fun r => waitPre (.inr (.inl r)) c) (fun r => waitPost X Wt (.inr (.inl r)) c) Q
    (fun r l k a => by
      iintro ⟨#HR, ⟨HO, Hw⟩, Hp⟩ Hk
      unfold xRecv
      iapply (wp_waitXf X Wt (.inr (.inl r)) K c (xInS cc0_scratch4 c r) rfl (src := xTop xM) (dst := inSlot gM c r) rfl (O₂ c) (by rw [lv_kcell]; exact above_O₂ c)) $$ [HO Hp]
      · isplitr; · iexact HR
        isplitl [HO] <;> iassumption
      unfold waitPost
      iintro ⟨HO, Hx, Hz⟩
      unfold xpay landHas slotPts
      iapply (wp_load 𝒱₀ (c : Thread nD τ) none Set.univ (m := gM) (S := slotSet (orig (.inl r) c))
        (by rw [setOn_g]; exact (slot_unit (orig (.inl r) c) (off9_eq r c) _).subset)) $$ Hx
      iintro Hx
      rw [read_slab X c (orig (.inl r) c) (off9_eq r c)]
      iapply (wp_load 𝒱₀ (c : Thread nD τ) none Set.univ (m := wM) (Finset.subset_univ _)) $$ Hw
      iintro Hw
      rw [read_wBlk (orig (.inl r) c) (off10_eq r c)]
      iapply Hk
      isplitl [HO Hw]
      · isplitl [HO] <;> iassumption
      isplitl [Hx] <;> iassumption)
    k steps31 a steps31_nodup
  rw [steps31_univ] at H
  exact H

/-! ## The exchanges of the maxima -/

/-- All sends of the first exchange; -/
theorem sends1 (K : Names) (c : Dev nD) (Q : PUnit → sProp 𝕄) (k : CoreProg F PUnit) :
    iprop(records X Wt K ∗ owesE c (O₂ c) ∗ bigSep Finset.univ fun r : Fin 7 => sendPre X Wt (.inr (.inl r)) c)
      ⊢ iprop(((owesE c (O₃ c) ∗ bigSep Finset.univ fun r : Fin 7 => sendPost (F := F) (.inr (.inl r)) c) -∗ WP c k Q)
          -∗ WP c (steps7.foldr (send1 aM cc0_scratch5 cc0_scratch6 c) k) Q) :=
  run_sends X Wt (fun r : Fin 7 => (.inr (.inl r) : T)) K c (send1 aM cc0_scratch5 cc0_scratch6 c) (O₃ c) Q
    (fun r k O' => wp_xfer X Wt (.inr (.inl r)) K c (am1Dev r c) (am1Dev_eq r c) (send1S cc0_scratch5 c r) (recv1S cc0_scratch6 c) (k := fun _ => k) rfl (rSem_eq (.inr (.inl r)) c) (src := row1 aM c) (dst := row1 aM c) (q := shareTok fullShare 7 r) (am1 X Wt c) rfl O'
      (by rw [row1_set]; rfl)
      (by rw [row1_set]; exact Entails.rfl)
      (fun fd => by
        rw [row1_set]
        show _ ⊢ row1Pts (dest (.inr (.inl r)) c) (pos (orig (.inr (.inl r)) (dest (.inr (.inl r)) c))) fullShare (am1 X Wt (dest (.inr (.inl r)) c))
        rw [show orig (.inr (.inl r)) (dest (.inr (.inl r)) c) = c from Equiv.symm_apply_apply _ _, am1_congr X Wt c _ (plane_dest7 r c)]
        exact Entails.of_eq (pointsTo_congr fun i hi => row1_landed c fd (am1 X Wt c) i hi)))
    steps7 steps7_nodup steps7_univ k

/-- the waits for its arrivals; -/
theorem recvs1 (K : Names) (c : Dev nD) (Q : PUnit → sProp 𝕄) (k : CoreProg F PUnit) :
    iprop(records X Wt K ∗ owesE c (O₃ c) ∗ bigSep Finset.univ fun r : Fin 7 => waitPre (F := F) (.inr (.inr (.inl r))) c)
      ⊢ iprop(((owesE c (O₃ c) ∗ bigSep Finset.univ fun r : Fin 7 => waitPost X Wt (.inr (.inr (.inl r))) c) -∗ WP c k Q)
          -∗ WP c (steps7.foldr (recv1 aM cc0_scratch6 c) k) Q) :=
  run_waits X Wt (fun r : Fin 7 => (.inr (.inr (.inl r)) : T ⊕ T)) K c (recv1 aM cc0_scratch6 c) (O₃ c) Q
    (fun r k => wp_waitXf X Wt (.inr (.inr (.inl r))) K c (in1S cc0_scratch6 c r) (k := fun _ => k) rfl (src := inRow1 aM c r) (dst := inRow1 aM c r) rfl (O₃ c) (by rw [lv_kcell]; exact above_O₃ c))
    steps7 steps7_nodup steps7_univ k

/-- and the waits for its sends to have left. -/
theorem dones1 (K : Names) (c : Dev nD) (Q : PUnit → sProp 𝕄) (k : CoreProg F PUnit) :
    iprop(records X Wt K ∗ owesE c 0 ∗ bigSep Finset.univ fun r : Fin 7 => waitPre (F := F) (.inl (.inr (.inl r))) c)
      ⊢ iprop(((owesE c 0 ∗ bigSep Finset.univ fun r : Fin 7 => waitPost X Wt (.inl (.inr (.inl r))) c) -∗ WP c k Q)
          -∗ WP c (steps7.foldr (done1 aM cc0_scratch5 c) k) Q) :=
  run_waits X Wt (fun r : Fin 7 => (.inl (.inr (.inl r)) : T ⊕ T)) K c (done1 aM cc0_scratch5 c) 0 Q
    (fun r k => wp_waitXf X Wt (.inl (.inr (.inl r))) K c (send1S cc0_scratch5 c r) (k := fun _ => k) rfl (src := row1 aM c) (dst := row1 aM c) rfl 0 (Above.zero _))
    steps7 steps7_nodup steps7_univ k

/-- All sends of the second exchange; -/
theorem sends2 (K : Names) (c : Dev nD) (Q : PUnit → sProp 𝕄) (k : CoreProg F PUnit) :
    iprop(records X Wt K ∗ owesE c (O₃ c) ∗ bigSep Finset.univ fun r : Fin 3 => sendPre X Wt (.inr (.inr r)) c)
      ⊢ iprop(((owesE c 0 ∗ bigSep Finset.univ fun r : Fin 3 => sendPost (F := F) (.inr (.inr r)) c) -∗ WP c k Q)
          -∗ WP c (steps3.foldr (send2 bM cc0_scratch7 cc0_scratch8 c) k) Q) := by
  have H := run_sends X Wt (fun r : Fin 3 => (.inr (.inr r) : T)) K c (send2 bM cc0_scratch7 cc0_scratch8 c) 0 Q
    (fun r k O' => wp_xfer X Wt (.inr (.inr r)) K c (am2Dev r c) (am2Dev_eq r c) (send2S cc0_scratch7 c r) (recv2S cc0_scratch8 c) (k := fun _ => k) rfl (rSem_eq (.inr (.inr r)) c) (src := row2 bM c) (dst := row2 bM c) (q := shareTok fullShare 3 r) (am2 X Wt c) rfl O'
      (by rw [row2_set]; rfl)
      (by rw [row2_set]; exact Entails.rfl)
      (fun fd => by
        rw [row2_set]
        show _ ⊢ row2Pts (dest (.inr (.inr r)) c) (plane (orig (.inr (.inr r)) (dest (.inr (.inr r)) c))) fullShare (am2 X Wt (dest (.inr (.inr r)) c))
        rw [show orig (.inr (.inr r)) (dest (.inr (.inr r)) c) = c from Equiv.symm_apply_apply _ _, am2_congr X Wt c _ (pos_dest3 r c)]
        exact Entails.of_eq (pointsTo_congr fun i hi => row2_landed c fd (am2 X Wt c) i hi)))
    steps3 steps3_nodup steps3_univ k
  rw [add_zero] at H
  exact H

/-- the waits for its arrivals; -/
theorem recvs2 (K : Names) (c : Dev nD) (Q : PUnit → sProp 𝕄) (k : CoreProg F PUnit) :
    iprop(records X Wt K ∗ owesE c 0 ∗ bigSep Finset.univ fun r : Fin 3 => waitPre (F := F) (.inr (.inr (.inr r))) c)
      ⊢ iprop(((owesE c 0 ∗ bigSep Finset.univ fun r : Fin 3 => waitPost X Wt (.inr (.inr (.inr r))) c) -∗ WP c k Q)
          -∗ WP c (steps3.foldr (recv2 bM cc0_scratch8 c) k) Q) :=
  run_waits X Wt (fun r : Fin 3 => (.inr (.inr (.inr r)) : T ⊕ T)) K c (recv2 bM cc0_scratch8 c) 0 Q
    (fun r k => wp_waitXf X Wt (.inr (.inr (.inr r))) K c (in2S cc0_scratch8 c r) (k := fun _ => k) rfl (src := inRow2 bM c r) (dst := inRow2 bM c r) rfl 0 (Above.zero _))
    steps3 steps3_nodup steps3_univ k

/-- and the waits for its sends to have left. -/
theorem dones2 (K : Names) (c : Dev nD) (Q : PUnit → sProp 𝕄) (k : CoreProg F PUnit) :
    iprop(records X Wt K ∗ owesE c 0 ∗ bigSep Finset.univ fun r : Fin 3 => waitPre (F := F) (.inl (.inr (.inr r))) c)
      ⊢ iprop(((owesE c 0 ∗ bigSep Finset.univ fun r : Fin 3 => waitPost X Wt (.inl (.inr (.inr r))) c) -∗ WP c k Q)
          -∗ WP c (steps3.foldr (done2 bM cc0_scratch7 c) k) Q) :=
  run_waits X Wt (fun r : Fin 3 => (.inl (.inr (.inr r)) : T ⊕ T)) K c (done2 bM cc0_scratch7 c) 0 Q
    (fun r k => wp_waitXf X Wt (.inl (.inr (.inr r))) K c (send2S cc0_scratch7 c r) (k := fun _ => k) rfl (src := row2 bM c) (dst := row2 bM c) rfl 0 (Above.zero _))
    steps3 steps3_nodup steps3_univ k

/-! ## The barrier -/

/-- The places of device `c` others send to, and its duties at the other barriers, are what its signals spend. -/
theorem sigPre_all (c : Dev nD) :
    iprop((bigSep Finset.univ fun r : Fin 31 => dutyTok ER (kcell (to31 r c, none)) 0 r) ∗ bigSep Finset.univ fun t : T => landAny (F := F) t (orig t c))
      ⊢ (bigSep Finset.univ fun i : Dev nD => sigPre (F := F) c i) := by
  have h1 : (bigSep Finset.univ fun i : Dev nD => sigPre (F := F) c i)
      = iprop(sigPre (F := F) c c ∗ bigSep Finset.univ fun r : Fin 31 => sigPre (F := F) c (to31 r c)) :=
    bigSep_others c (fun r : Fin 31 => to31 r c) (to31_inj c) (fun r => dest_ne (.inl r) c) rfl _
  have h2 : ∀ r : Fin 31, sigPre (F := F) c (to31 r c) = iprop(dutyTok ER (kcell (to31 r c, none)) 0 r ∗ barPay (F := F) (to31 r c) r) := fun r => by
    have hne : c ≠ to31 r c := fun e => dest_ne (.inl r) c e.symm
    have hg : (⟨gap c (to31 r c), gap_lt hne⟩ : Fin 31) = r := ((to31_eq_iff r c (to31 r c) hne).mp rfl).symm
    unfold sigPre
    rw [dif_neg hne, hg]
  rw [h1, barPay_split, bigSep_congr (fun r _ => h2 r), bigSep_sep']
  unfold sigPre
  rw [dif_pos rfl]
  iintro ⟨H1, H2⟩
  isplitr; · iempintro
  isplitl [H1] <;> iassumption

/-- The signals of the barrier. -/
theorem barSigs (K : Names) (c : Dev nD) (Q : PUnit → sProp 𝕄) (k : CoreProg F PUnit) :
    iprop(records X Wt K ∗ owesE c (O₀ c) ∗ (bigSep Finset.univ fun r : Fin 31 => dutyTok ER (kcell (to31 r c, none)) 0 r)
        ∗ bigSep Finset.univ fun t : T => landAny (F := F) t (orig t c))
      ⊢ iprop((owesE c (O₁ c) -∗ WP c k Q) -∗ WP c (sigs c sigList k) Q) := by
  have H := run_steps c (records X Wt K) (sigStep c) (fun l => owesE c ((l.map (sO c)).sum + O₁ c)) (fun i => sigPre c i)
    (fun _ => iprop(emp)) Q (fun i l k => wp_sigStep X Wt K c i l (O₁ c) k) k sigList sigList_nodup
  rw [sigList_univ, List.map_nil, List.sum_nil, zero_add] at H
  iintro ⟨#HR, HO, Hs⟩ Hk
  iapply H $$ [HO Hs]
  · isplitr; · iexact HR
    isplitl [HO]; · iexact HO
    iapply (sigPre_all c); iexact Hs
  iintro ⟨HO, -⟩
  iapply Hk
  iexact HO

/-- The wait of the barrier: the places on the other devices this one sends to. -/
theorem barWait (K : Names) (c : Dev nD) (Q : PUnit → sProp 𝕄) (k : PUnit → CoreProg F PUnit) :
    iprop(records X Wt K ∗ owesE c (O₁ c) ∗ cred (tallyAt (kcell (c, none)) () 31) ∗ atPos ER (kcell (c, none)) 0 ∅ 0)
      ⊢ iprop(((owesE c (O₁ c) ∗ (bigSep Finset.univ fun t : T => landAny (F := F) t c) ∗ semVal (kcell (c, none)) 0) -∗ WP c (k ⟨⟩) Q)
          -∗ WP c (.op (.semWait barS (31#32).toInt) k) Q) := by
  have hM : records X Wt K ⊢ MayWait (c : Thread nD τ) (SemLoc.reg barS) () (O₁ c) :=
    records_mayWait X Wt K c (SemLoc.reg barS) (O₁ c) (by
      have h := lv_kcell c none
      exact h ▸ above_O₁ c)
  have hrest : bigSep ((sched X Wt).duties ((c : Thread nD τ), SemLoc.reg barS) 0 \ ∅) (fun d => (sched X Wt).payload ((c : Thread nD τ), SemLoc.reg barS) 0 d)
      = bigSep Finset.univ fun t : T => landAny (F := F) t c := by
    show bigSep ((sched X Wt).duties (kcell (c, none)) 0 \ ∅) (fun d => (sched X Wt).payload (kcell (c, none)) 0 d) = _
    rw [Finset.sdiff_empty, duties_bar, bigSep_congr (fun d _ => payload_bar X Wt c d), barPay_all]
  unfold owesE
  iintro ⟨#HR, ⟨%W, HO⟩, Hc, Hat⟩ Hk
  ihave #H1 := (records_at X Wt K (c, none)) $$ HR
  icases H1 with ⟨#HI, -⟩
  iapply (Rounds.wp_wait_rest_token 𝒱₀ ER (sched X Wt) (c : Thread nD τ) none (κ := K (c, none))
      (wpE_semWait_eq 𝒱₀ (c : Thread nD τ) none Set.univ) (Set.mem_univ _) () (O := O₁ c) (W := W) (R := 0) (m := 0) (T := ∅)
      (by rw [show (sched X Wt).expect ((c : Thread nD τ), SemLoc.reg barS) 0 = 31 from expect_bar X Wt c]; decide)) $$ [Hc HO Hat]
  · isplitr; · iexact HI
    isplitl [Hc]; · iexact Hc
    isplitl [HO]; · iexact HO
    isplitr; · iapply hM; iexact HR
    iexact Hat
  iintro ⟨HO, Hat, -, Hpay⟩
  ihave Hpay := (Entails.of_eq hrest) $$ Hpay
  imod (Rounds.cell_close ER (sched X Wt) (Set.mem_univ (K (c, none))) (fun h => h) (R := 0 + 1) (duties_later X Wt (kcell (c, none)))) $$ [Hat] with Hz
  · isplitr; · iexact HI
    iexact Hat
  iapply Hk
  isplitl [HO]; · iexists _; iexact HO
  isplitl [Hpay] <;> iassumption

end Cert.A2A

end
-- ==== Proof.Body.lean ====
module
public import Idealize.ShloMosaic.Lib.Ring
public import proofs.«01_k».proof.Proof.Exchange

/-!
# One device's run
-/

@[expose] public section

noncomputable section

namespace Cert.A2A

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-! ## Buffers in pieces -/

section Pieces

variable {ℓ : Loc nD τ sig} {R B : Type} [Fintype R] [DecidableEq R] [Fintype B] [DecidableEq B] (I : B → Finset (Idx ℓ))
  (hd : ∀ b b', b ≠ b' → Disjoint (I b) (I b')) (hc : Finset.univ.biUnion I = Finset.univ)
  (b : B) (g : R → B) (hg : Function.Injective g) (hb : ∀ r, g r ≠ b) (hn : Fintype.card B = Fintype.card R + 1)

include hd hc hg hb hn in
/-- A buffer is one piece and the others. -/
theorem pieces (q : PosShare TreeShare) (f : Buf (Elt F) ℓ) :
    (ℓ ↦{q} f : sProp 𝕄) = iprop((ℓ ↦[I b]{q} f) ∗ bigSep Finset.univ fun r => ℓ ↦[I (g r)]{q} f) :=
  (Ring.pointsTo_blocks I hd hc f).trans (bigSep_others b g hg hb hn _)

include hd hc hg hb hn in
/-- Pieces at contents of their own are the buffer at some contents. -/
theorem pieces_join (f₀ f₁ : Buf (Elt F) ℓ) :
    iprop((ℓ ↦[I b]{fullShare} f₀) ∗ bigSep Finset.univ fun r => ℓ ↦[I (g r)]{fullShare} f₁) ⊢ (iprop(∃ f, ℓ ↦{fullShare} f) : sProp 𝕄) := by
  have h : (bigSep Finset.univ fun b => iprop(∃ f, ℓ ↦[I b]{fullShare} f)) ⊢ (iprop(∃ f, ℓ ↦{fullShare} f) : sProp 𝕄) :=
    Ring.pointsTo_blocks_join_exists I hd hc f₀
  rw [bigSep_others b g hg hb hn (fun b => iprop(∃ f, ℓ ↦[I b]{fullShare} f))] at h
  refine BIBase.Entails.trans ?_ h
  have e : ∀ r, (ℓ ↦[I (g r)]{fullShare} f₁ : sProp 𝕄) ⊢ iprop(∃ f, ℓ ↦[I (g r)]{fullShare} f) := fun r => by
    iintro H; iexists f₁; iexact H
  refine BIClass.sep_mono ?_ (bigSep_mono fun r _ => e r)
  iintro H; iexists f₀; iexact H

include hd hc hg hb hn in
/-- The piece already split, and the others whole: the buffer at the remaining share, and the others' tokens. -/
theorem pieces_lend (n : ℕ) (f : Buf (Elt F) ℓ) :
    iprop((ℓ ↦[I b]{shareDrop fullShare n} f) ∗ bigSep Finset.univ fun r => ℓ ↦[I (g r)]{fullShare} f)
      ⊢ (iprop((ℓ ↦{shareDrop fullShare n} f) ∗ bigSep Finset.univ fun r => bigSep Finset.univ fun i : Fin n => ℓ ↦[I (g r)]{shareTok fullShare n i} f) : sProp 𝕄) := by
  rw [pieces I hd hc b g hg hb hn (shareDrop fullShare n) f]
  have h : (bigSep Finset.univ fun r => (ℓ ↦[I (g r)]{fullShare} f : sProp 𝕄))
      ⊢ iprop((bigSep Finset.univ fun r => (ℓ ↦[I (g r)]{shareDrop fullShare n} f : sProp 𝕄))
        ∗ bigSep Finset.univ fun r => bigSep Finset.univ fun i : Fin n => (ℓ ↦[I (g r)]{shareTok fullShare n i} f : sProp 𝕄)) := by
    rw [← bigSep_sep']
    exact bigSep_mono fun r _ => pointsTo_toks_split fullShare n
  iintro ⟨H1, H2⟩
  ihave H2 := h $$ H2
  icases H2 with ⟨H2, H3⟩
  isplitr [H3]
  · isplitl [H1] <;> iassumption
  · iexact H3

include hd hc hg hb hn in
/-- All of it put back. -/
theorem pieces_back (n : ℕ) (f : Buf (Elt F) ℓ) :
    iprop((ℓ ↦{shareDrop fullShare n} f) ∗ (bigSep Finset.univ fun i : Fin n => ℓ ↦[I b]{shareTok fullShare n i} f)
        ∗ bigSep Finset.univ fun r => bigSep Finset.univ fun i : Fin n => ℓ ↦[I (g r)]{shareTok fullShare n i} f)
      ⊢ (ℓ ↦{fullShare} f : sProp 𝕄) := by
  rw [pieces I hd hc b g hg hb hn (shareDrop fullShare n) f, pieces I hd hc b g hg hb hn fullShare f]
  have h : iprop((bigSep Finset.univ fun r => (ℓ ↦[I (g r)]{shareDrop fullShare n} f : sProp 𝕄))
        ∗ bigSep Finset.univ fun r => bigSep Finset.univ fun i : Fin n => (ℓ ↦[I (g r)]{shareTok fullShare n i} f : sProp 𝕄))
      ⊢ (bigSep Finset.univ fun r => (ℓ ↦[I (g r)]{fullShare} f : sProp 𝕄)) := by
    rw [← bigSep_sep']
    exact bigSep_mono fun r _ => pointsTo_toks_join fullShare n
  iintro ⟨⟨H1, H2⟩, H3, H4⟩
  isplitl [H1 H3]
  · iapply (pointsTo_toks_join fullShare n)
    isplitl [H1] <;> iassumption
  · iapply h
    isplitl [H2] <;> iassumption

end Pieces

/-- A family over the transfers, exchange by exchange. -/
theorem bigSep_T (Φ : T → sProp 𝕄) : bigSep Finset.univ Φ
    = iprop((bigSep Finset.univ fun r : Fin 31 => Φ (.inl r)) ∗ (bigSep Finset.univ fun r : Fin 7 => Φ (.inr (.inl r)))
      ∗ bigSep Finset.univ fun r : Fin 3 => Φ (.inr (.inr r))) := by
  rw [bigSep_univ_sum, bigSep_univ_sum]; rfl

variable (X : Dev nD → S4096x128.Idx → F .f32) (Wt : Dev nD → S4096x2048.Idx → F .f32)

/-- What a send spends besides its source. -/
def sendTok (t : T) (c : Dev nD) : sProp 𝕄 :=
  iprop(landAny t c ∗ dutyTok ER (kcell (c, some (.inl t))) 0 0 ∗ dutyTok ER (kcell (dest t c, some (.inr t))) 0 0)
/-- The place of a wait in its cell's round. -/
def posAt (x : T ⊕ T) (c : Dev nD) : sProp 𝕄 := atPos ER (kcell (c, some x)) 0 ∅ 0
/-- A cell closed. -/
def closed (x : T ⊕ T) (c : Dev nD) : sProp 𝕄 := semVal (kcell (c, some x)) 0

variable {ι : Type} [DecidableEq ι] [Fintype ι]

/-- The sources and the tokens of a family of sends, put together send by send. -/
theorem sendPre_all (j : ι → T) (c : Dev nD) :
    iprop((bigSep Finset.univ fun i => srcHas X Wt (j i) c) ∗ bigSep Finset.univ fun i => sendTok (F := F) (j i) c)
      ⊢ bigSep Finset.univ fun i => sendPre X Wt (j i) c := by
  rw [← bigSep_sep']
  exact bigSep_mono fun i _ => .refl _
/-- What a family of sends left and the places of their waits, put together wait by wait. -/
theorem waitPre_all (j : ι → T) (c : Dev nD) :
    iprop((bigSep Finset.univ fun i => sendPost (F := F) (j i) c) ∗ bigSep Finset.univ fun i => posAt (F := F) (.inl (j i)) c)
      ⊢ bigSep Finset.univ fun i => waitPre (F := F) (.inl (j i)) c := by
  rw [← bigSep_sep']
  exact bigSep_mono fun i _ => .refl _
/-- What a family of waits leaves: their payloads, and their cells closed. -/
theorem waitPost_all (j : ι → T ⊕ T) (c : Dev nD) :
    (bigSep Finset.univ fun i => waitPost X Wt (j i) c)
      ⊢ iprop((bigSep Finset.univ fun i => xpay X Wt c (j i)) ∗ bigSep Finset.univ fun i => closed (F := F) (j i) c) := by
  rw [← bigSep_sep']
  exact bigSep_mono fun i _ => .refl _

/-! ## The second exchange and the result -/

/-- The second exchange, the waits of the first one's sends, and the result stored. -/
theorem run_phase2 (K : Names) (c : Dev nD) (Q : PUnit → sProp 𝕄) :
    iprop(records X Wt K ∗ owesE c (O₃ c)
        ∗ (∃ f, ((c : Thread nD τ).loc cc0_stg2_0) ↦{fullShare} f)
        ∗ (((c : Thread nD τ).loc cc0_scratch1) ↦{shareDrop fullShare 7} (am1 X Wt c))
        ∗ (∃ f, row2Pts c (plane c) fullShare f)
        ∗ (bigSep Finset.univ fun r : Fin 3 => sendTok (F := F) (.inr (.inr r)) c)
        ∗ (bigSep Finset.univ fun r : Fin 3 => posAt (F := F) (.inl (.inr (.inr r))) c)
        ∗ (bigSep Finset.univ fun r : Fin 3 => waitPre (F := F) (.inr (.inr (.inr r))) c)
        ∗ (bigSep Finset.univ fun r : Fin 7 => waitPre (F := F) (.inl (.inr (.inl r))) c))
      ⊢ iprop(((owesE c 0
          ∗ (((c : Thread nD τ).loc cc0_stg2_0) ↦{fullShare} (outV X Wt c))
          ∗ (((c : Thread nD τ).loc cc0_scratch1) ↦{shareDrop fullShare 7} (am1 X Wt c))
          ∗ (∃ f, ((c : Thread nD τ).loc cc0_scratch2) ↦{fullShare} f)
          ∗ (bigSep Finset.univ fun r : Fin 7 => row1Pts c (pos c) (shareTok fullShare 7 r) (am1 X Wt c))
          ∗ (bigSep Finset.univ fun r : Fin 7 => closed (F := F) (.inl (.inr (.inl r))) c)
          ∗ (bigSep Finset.univ fun r : Fin 3 => closed (F := F) (.inl (.inr (.inr r))) c)
          ∗ (bigSep Finset.univ fun r : Fin 3 => closed (F := F) (.inr (.inr (.inr r))) c)) -∗ Q ⟨⟩)
        -∗ WP c (phase2 oM aM bM cc0_scratch5 cc0_scratch7 cc0_scratch8 c (yAt X Wt c)) Q) := by
  unfold phase2 row2Pts
  iintro ⟨#HR, HO, ⟨%fo, Hout⟩, Ha, ⟨%fb, Hb⟩, Ht, Hp, Hw, Hd⟩ Hk
  iapply (wp_load 𝒱₀ (c : Thread nD τ) none Set.univ (m := aM) (Finset.subset_univ _)) $$ Ha; iintro Ha
  rw [read_am1]
  iapply (wp_load 𝒱₀ (c : Thread nD τ) none Set.univ (m := bM) (S := row2Set (plane c))
    (by rw [setOn_b]; exact (row2_unit (plane c) (off17_eq c) _).subset)) $$ Hb
  iintro Hb
  iapply (wp_store 𝒱₀ (c : Thread nD τ) none Set.univ (m := bM) (r := Rect.unit (s := S4x128) (k0_off17 c) S1x128.size (k0_off17_inb c)) (Mk := Finset.univ) (S := row2Set (plane c))
    (by rw [View.setOn_univ, View.set_slice_whole]; exact (row2_unit (plane c) (off17_eq c) _).subset)) $$ Hb
  iintro Hb
  ihave Hb := (Entails.of_eq (pointsTo_congr (g := am2 X Wt c) fun i hi => row2_stored X Wt c (off17_eq c) _ fb i hi)) $$ Hb
  ihave Hb := (pointsTo_toks_split fullShare 3) $$ Hb
  icases Hb with ⟨Hb, Hbt⟩
  iapply (sends2 X Wt K c Q) $$ [HO Hbt Ht]
  · isplitr; · iexact HR
    isplitl [HO]; · iexact HO
    iapply (sendPre_all X Wt (fun r : Fin 3 => (.inr (.inr r) : T)) c)
    isplitl [Hbt]; · iexact Hbt
    iexact Ht
  iintro ⟨HO, Hs⟩
  iapply (recvs2 X Wt K c Q) $$ [HO Hw]
  · isplitr; · iexact HR
    isplitl [HO] <;> iassumption
  iintro ⟨HO, Hv⟩
  ihave Hv := (waitPost_all X Wt (fun r : Fin 3 => (.inr (.inr (.inr r)) : T ⊕ T)) c) $$ Hv
  icases Hv with ⟨Hv, Hz2r⟩
  ihave Hb := (pieces_lend (F := F) (ℓ := (c : Thread nD τ).loc cc0_scratch2) row2Set row2_disj row2_cover (plane c) (fun r : Fin 3 => plane (orig (.inr (.inr r)) c))
    (from3_inj c) (from3_ne c) rfl 3 (am2 X Wt c)) $$ [Hb Hv]
  · isplitl [Hb]; · iexact Hb
    iexact Hv
  icases Hb with ⟨Hb, Hbo⟩
  iapply (wp_load 𝒱₀ (c : Thread nD τ) none Set.univ (m := bM) (Finset.subset_univ _)) $$ Hb; iintro Hb
  rw [read_am2]
  iapply (dones1 X Wt K c Q) $$ [HO Hd]
  · isplitr; · iexact HR
    isplitl [HO] <;> iassumption
  iintro ⟨HO, Hv⟩
  ihave Hv := (waitPost_all X Wt (fun r : Fin 7 => (.inl (.inr (.inl r)) : T ⊕ T)) c) $$ Hv
  icases Hv with ⟨Ha1, Hz1s⟩
  ihave Hw := (waitPre_all (fun r : Fin 3 => (.inr (.inr r) : T)) c) $$ [Hs Hp]
  · isplitl [Hs] <;> iassumption
  iapply (dones2 X Wt K c Q) $$ [HO Hw]
  · isplitr; · iexact HR
    isplitl [HO] <;> iassumption
  iintro ⟨HO, Hv⟩
  ihave Hv := (waitPost_all X Wt (fun r : Fin 3 => (.inl (.inr (.inr r)) : T ⊕ T)) c) $$ Hv
  icases Hv with ⟨Hb1, Hz2s⟩
  unfold storeOut
  iapply (wp_load 𝒱₀ (c : Thread nD τ) none Set.univ (m := oM) (Finset.subset_univ _)) $$ Hout; iintro Hout
  iapply (wp_store 𝒱₀ (c : Thread nD τ) none Set.univ (m := oM) (r := Rect.unit (s := S128x2048) ![0, 0] S128x2048.size inb_S128x2048_S128x2048_0_0) (Mk := Finset.univ) (Finset.subset_univ _)) $$ Hout
  iintro Hout
  rw [write_out, wp_ret]; imodintro
  iapply Hk
  isplitl [HO]; · iexact HO
  isplitl [Hout]; · iexact Hout
  isplitl [Ha]; · iexact Ha
  isplitl [Hb Hb1 Hbo]
  · iexists _
    iapply (pieces_back (F := F) (ℓ := (c : Thread nD τ).loc cc0_scratch2) row2Set row2_disj row2_cover (plane c) (fun r : Fin 3 => plane (orig (.inr (.inr r)) c))
      (from3_inj c) (from3_ne c) rfl 3 (am2 X Wt c))
    isplitl [Hb]; · iexact Hb
    isplitl [Hb1]; · iexact Hb1
    iexact Hbo
  isplitl [Ha1]; · iexact Ha1
  isplitl [Hz1s]; · iexact Hz1s
  isplitl [Hz2s] <;> iassumption

/-! ## Both exchanges and the result -/

/-- The first exchange of maxima, and what follows it. -/
theorem run_phase1 (K : Names) (c : Dev nD) (Q : PUnit → sProp 𝕄) :
    iprop(records X Wt K ∗ owesE c (O₂ c)
        ∗ (∃ f, ((c : Thread nD τ).loc cc0_stg2_0) ↦{fullShare} f)
        ∗ (∃ f, row1Pts c (pos c) fullShare f)
        ∗ (∃ f, row2Pts c (plane c) fullShare f)
        ∗ ((bigSep Finset.univ fun r : Fin 7 => sendTok (F := F) (.inr (.inl r)) c)
          ∗ bigSep Finset.univ fun r : Fin 3 => sendTok (F := F) (.inr (.inr r)) c)
        ∗ ((bigSep Finset.univ fun r : Fin 7 => posAt (F := F) (.inl (.inr (.inl r))) c)
          ∗ bigSep Finset.univ fun r : Fin 3 => posAt (F := F) (.inl (.inr (.inr r))) c)
        ∗ ((bigSep Finset.univ fun r : Fin 7 => waitPre (F := F) (.inr (.inr (.inl r))) c)
          ∗ bigSep Finset.univ fun r : Fin 3 => waitPre (F := F) (.inr (.inr (.inr r))) c))
      ⊢ iprop(((owesE c 0
          ∗ (((c : Thread nD τ).loc cc0_stg2_0) ↦{fullShare} (outV X Wt c))
          ∗ (∃ f, ((c : Thread nD τ).loc cc0_scratch1) ↦{fullShare} f)
          ∗ (∃ f, ((c : Thread nD τ).loc cc0_scratch2) ↦{fullShare} f)
          ∗ ((bigSep Finset.univ fun r : Fin 7 => closed (F := F) (.inl (.inr (.inl r))) c)
            ∗ bigSep Finset.univ fun r : Fin 3 => closed (F := F) (.inl (.inr (.inr r))) c)
          ∗ ((bigSep Finset.univ fun r : Fin 7 => closed (F := F) (.inr (.inr (.inl r))) c)
            ∗ bigSep Finset.univ fun r : Fin 3 => closed (F := F) (.inr (.inr (.inr r))) c)) -∗ Q ⟨⟩)
        -∗ WP c (phase1 oM aM bM cc0_scratch5 cc0_scratch6 cc0_scratch7 cc0_scratch8 c (yAt X Wt c)) Q) := by
  unfold phase1 row1Pts
  iintro ⟨#HR, HO, Hout, ⟨%fa, Ha⟩, Hb, ⟨Ht1, Ht2⟩, ⟨Hp1, Hp2⟩, ⟨Hw1, Hw2⟩⟩ Hk
  iapply (wp_load 𝒱₀ (c : Thread nD τ) none Set.univ (m := aM) (S := row1Set (pos c))
    (by rw [setOn_a]; exact (row1_unit (pos c) (off11_eq c) _).subset)) $$ Ha
  iintro Ha
  iapply (wp_store 𝒱₀ (c : Thread nD τ) none Set.univ (m := aM) (r := Rect.unit (s := S8x128) (k0_off11 c) S1x128.size (k0_off11_inb c)) (Mk := Finset.univ) (S := row1Set (pos c))
    (by rw [View.setOn_univ, View.set_slice_whole]; exact (row1_unit (pos c) (off11_eq c) _).subset)) $$ Ha
  iintro Ha
  ihave Ha := (Entails.of_eq (pointsTo_congr (g := am1 X Wt c) fun i hi => row1_stored X Wt c (off11_eq c) _ fa i hi)) $$ Ha
  ihave Ha := (pointsTo_toks_split fullShare 7) $$ Ha
  icases Ha with ⟨Ha, Hat⟩
  iapply (sends1 X Wt K c Q) $$ [HO Hat Ht1]
  · isplitr; · iexact HR
    isplitl [HO]; · iexact HO
    iapply (sendPre_all X Wt (fun r : Fin 7 => (.inr (.inl r) : T)) c)
    isplitl [Hat]; · iexact Hat
    iexact Ht1
  iintro ⟨HO, Hs⟩
  iapply (recvs1 X Wt K c Q) $$ [HO Hw1]
  · isplitr; · iexact HR
    isplitl [HO] <;> iassumption
  iintro ⟨HO, Hv⟩
  ihave Hv := (waitPost_all X Wt (fun r : Fin 7 => (.inr (.inr (.inl r)) : T ⊕ T)) c) $$ Hv
  icases Hv with ⟨Hv, Hz1r⟩
  ihave Ha := (pieces_lend (F := F) (ℓ := (c : Thread nD τ).loc cc0_scratch1) row1Set row1_disj row1_cover (pos c) (fun r : Fin 7 => pos (orig (.inr (.inl r)) c))
    (from7_inj c) (from7_ne c) rfl 7 (am1 X Wt c)) $$ [Ha Hv]
  · isplitl [Ha]; · iexact Ha
    iexact Hv
  icases Ha with ⟨Ha, Hao⟩
  ihave Hd := (waitPre_all (fun r : Fin 7 => (.inr (.inl r) : T)) c) $$ [Hs Hp1]
  · isplitl [Hs] <;> iassumption
  iapply (run_phase2 X Wt K c Q) $$ [HO Hout Ha Hb Ht2 Hp2 Hw2 Hd]
  · isplitr; · iexact HR
    isplitl [HO]; · iexact HO
    isplitl [Hout]; · iexact Hout
    isplitl [Ha]; · iexact Ha
    isplitl [Hb]; · iexact Hb
    isplitl [Ht2]; · iexact Ht2
    isplitl [Hp2]; · iexact Hp2
    isplitl [Hw2] <;> iassumption
  iintro ⟨HO, Hout, Ha, Hb, Ha1, Hz1s, Hz2s, Hz2r⟩
  iapply Hk
  isplitl [HO]; · iexact HO
  isplitl [Hout]; · iexact Hout
  isplitl [Ha Ha1 Hao]
  · iexists _
    iapply (pieces_back (F := F) (ℓ := (c : Thread nD τ).loc cc0_scratch1) row1Set row1_disj row1_cover (pos c) (fun r : Fin 7 => pos (orig (.inr (.inl r)) c))
      (from7_inj c) (from7_ne c) rfl 7 (am1 X Wt c))
    isplitl [Ha]; · iexact Ha
    isplitl [Ha1]; · iexact Ha1
    iexact Hao
  isplitl [Hb]; · iexact Hb
  isplitl [Hz1s Hz2s]
  · isplitl [Hz1s] <;> iassumption
  · isplitl [Hz1r] <;> iassumption

/-! ## After the barrier -/

/-- Everything after the barrier: the blocks sent, the product accumulated as they arrive, the maxima exchanged. -/
theorem run_after (K : Names) (c : Dev nD) (Q : PUnit → sProp 𝕄) :
    iprop(records X Wt K ∗ owesE c (O₁ c)
        ∗ (((c : Thread nD τ).loc cc0_stg0_0) ↦{fullShare} (X c))
        ∗ (((c : Thread nD τ).loc cc0_stg1_0) ↦{fullShare} (Wt c))
        ∗ (∃ f, ((c : Thread nD τ).loc cc0_stg2_0) ↦{fullShare} f)
        ∗ (∃ f, slotPts c c f)
        ∗ (∃ f, row1Pts c (pos c) fullShare f)
        ∗ (∃ f, row2Pts c (plane c) fullShare f)
        ∗ (bigSep Finset.univ fun t : T => sendTok (F := F) t c)
        ∗ (bigSep Finset.univ fun t : T => posAt (F := F) (.inl t) c)
        ∗ (bigSep Finset.univ fun t : T => waitPre (F := F) (.inr t) c))
      ⊢ iprop(((owesE c 0
          ∗ (((c : Thread nD τ).loc cc0_stg0_0) ↦{fullShare} (X c))
          ∗ (((c : Thread nD τ).loc cc0_stg1_0) ↦{fullShare} (Wt c))
          ∗ (((c : Thread nD τ).loc cc0_stg2_0) ↦{fullShare} (outV X Wt c))
          ∗ (∃ f, ((c : Thread nD τ).loc cc0_scratch0) ↦{fullShare} f)
          ∗ (∃ f, ((c : Thread nD τ).loc cc0_scratch1) ↦{fullShare} f)
          ∗ (∃ f, ((c : Thread nD τ).loc cc0_scratch2) ↦{fullShare} f)
          ∗ (bigSep Finset.univ fun t : T => closed (F := F) (.inl t) c)
          ∗ (bigSep Finset.univ fun t : T => closed (F := F) (.inr t) c)) -∗ Q ⟨⟩)
        -∗ WP c (afterBarrier xM wM oM gM aM bM cc0_scratch3 cc0_scratch4 cc0_scratch5 cc0_scratch6 cc0_scratch7 cc0_scratch8 c) Q) := by
  have hx := pieces (F := F) (ℓ := (c : Thread nD τ).loc cc0_stg0_0) rowsSet rows_disj rows_cover c (fun r : Fin 31 => dest (.inl r) c)
    (to31_inj c) (fun r => dest_ne (.inl r) c) rfl fullShare (X c)
  unfold afterBarrier slotPts
  rw [bigSep_T, bigSep_T, bigSep_T, bigSep_T, bigSep_T]
  iintro ⟨#HR, HO, Hx, Hw, Hout, ⟨%fg, Hg⟩, Ha, Hb, ⟨Ht0, Ht1, Ht2⟩, ⟨Hp0, Hp1, Hp2⟩, ⟨Hv0, Hv1, Hv2⟩⟩ Hk
  ihave Hx := (Entails.of_eq hx) $$ Hx
  icases Hx with ⟨Hx, Hxs⟩
  iapply (xSends X Wt K c Q) $$ [HO Hxs Ht0]
  · isplitr; · iexact HR
    isplitl [HO]; · iexact HO
    iapply (sendPre_all X Wt (fun r : Fin 31 => (.inl r : T)) c)
    isplitl [Hxs]; · iexact Hxs
    iexact Ht0
  iintro ⟨HO, Hs⟩
  iapply (wp_load 𝒱₀ (c : Thread nD τ) none Set.univ (m := xM) (S := rowsSet c)
    (by rw [setOn_x]; exact (rows_unit c (off5_eq c) _).subset)) $$ Hx
  iintro Hx
  rw [read_xBlk c (off5_eq c)]
  iapply (wp_load 𝒱₀ (c : Thread nD τ) none Set.univ (m := wM) (Finset.subset_univ _)) $$ Hw; iintro Hw
  rw [read_wBlk c (off6_eq c)]
  iapply (xRecvs X Wt K c Q) $$ [HO Hw Hv0]
  · isplitr; · iexact HR
    isplitl [HO Hw]
    · isplitl [HO] <;> iassumption
    iexact Hv0
  iintro ⟨⟨HO, Hw⟩, Hv⟩
  ihave Hv := (waitPost_all X Wt (fun r : Fin 31 => (.inr (.inl r) : T ⊕ T)) c) $$ Hv
  icases Hv with ⟨Hgs, Hz0r⟩
  ihave Hd := (waitPre_all (fun r : Fin 31 => (.inl r : T)) c) $$ [Hs Hp0]
  · isplitl [Hs] <;> iassumption
  iapply (xDones X Wt K c Q) $$ [HO Hd]
  · isplitr; · iexact HR
    isplitl [HO] <;> iassumption
  iintro ⟨HO, Hv⟩
  ihave Hv := (waitPost_all X Wt (fun r : Fin 31 => (.inl (.inl r) : T ⊕ T)) c) $$ Hv
  icases Hv with ⟨Hxs, Hz0s⟩
  iapply (run_phase1 X Wt K c Q) $$ [HO Hout Ha Hb Ht1 Ht2 Hp1 Hp2 Hv1 Hv2]
  · isplitr; · iexact HR
    isplitl [HO]; · iexact HO
    isplitl [Hout]; · iexact Hout
    isplitl [Ha]; · iexact Ha
    isplitl [Hb]; · iexact Hb
    isplitl [Ht1 Ht2]
    · isplitl [Ht1] <;> iassumption
    isplitl [Hp1 Hp2]
    · isplitl [Hp1] <;> iassumption
    · isplitl [Hv1] <;> iassumption
  iintro ⟨HO, Hout, Ha, Hb, Hzs, Hzr⟩
  iapply Hk
  isplitl [HO]; · iexact HO
  isplitl [Hx Hxs]
  · iapply (Entails.of_eq hx.symm)
    isplitl [Hx]; · iexact Hx
    iexact Hxs
  isplitl [Hw]; · iexact Hw
  isplitl [Hout]; · iexact Hout
  isplitl [Hg Hgs]
  · iapply (pieces_join (F := F) (ℓ := (c : Thread nD τ).loc cc0_scratch0) slotSet slot_disj slot_cover c (fun r : Fin 31 => orig (.inl r) c)
      (from31_inj c) (fun r => orig_ne (.inl r) c) rfl fg (gath X c))
    isplitl [Hg]; · iexact Hg
    iexact Hgs
  isplitl [Ha]; · iexact Ha
  isplitl [Hb]; · iexact Hb
  isplitl [Hz0s Hzs]
  · isplitl [Hz0s]; · iexact Hz0s
    iexact Hzs
  · isplitl [Hz0r]; · iexact Hz0r
    iexact Hzr

/-! ## The whole body -/

/-- The duties a device pays, at the launch. -/
def tokAt (t : T) (c : Dev nD) : sProp 𝕄 :=
  iprop(dutyTok ER (kcell (c, some (.inl t))) 0 0 ∗ dutyTok ER (kcell (dest t c, some (.inr t))) 0 0)

/-- The three scratch buffers give every other device its places, and keep the device's own. -/
theorem scratch_split (c : Dev nD) :
    iprop((∃ f, ((c : Thread nD τ).loc cc0_scratch0) ↦{fullShare} f) ∗ (∃ f, ((c : Thread nD τ).loc cc0_scratch1) ↦{fullShare} f)
        ∗ (∃ f, ((c : Thread nD τ).loc cc0_scratch2) ↦{fullShare} f))
      ⊢ (iprop((∃ f, slotPts c c f) ∗ (∃ f, row1Pts c (pos c) fullShare f) ∗ (∃ f, row2Pts c (plane c) fullShare f)
        ∗ bigSep Finset.univ fun t : T => landAny (F := F) t (orig t c)) : sProp 𝕄) := by
  have h0 : ∀ f : Buf (Elt F) ((c : Thread nD τ).loc cc0_scratch0), (bigSep Finset.univ fun r : Fin 31 => (((c : Thread nD τ).loc cc0_scratch0) ↦[slotSet (orig (.inl r) c)]{fullShare} f : sProp 𝕄))
      ⊢ bigSep Finset.univ fun r : Fin 31 => landAny (F := F) (.inl r) (orig (.inl r) c) := fun f => bigSep_mono fun r _ => by
    show _ ⊢ (iprop(∃ f, slotPts (dest (.inl r) (orig (.inl r) c)) (orig (.inl r) c) f) : sProp 𝕄)
    rw [show dest (.inl r) (orig (.inl r) c) = c from Equiv.apply_symm_apply _ _]
    unfold slotPts
    iintro H; iexists f; iexact H
  have h1 : ∀ f : Buf (Elt F) ((c : Thread nD τ).loc cc0_scratch1), (bigSep Finset.univ fun r : Fin 7 => (((c : Thread nD τ).loc cc0_scratch1) ↦[row1Set (pos (orig (.inr (.inl r)) c))]{fullShare} f : sProp 𝕄))
      ⊢ bigSep Finset.univ fun r : Fin 7 => landAny (F := F) (.inr (.inl r)) (orig (.inr (.inl r)) c) := fun f => bigSep_mono fun r _ => by
    show _ ⊢ (iprop(∃ f, row1Pts (dest (.inr (.inl r)) (orig (.inr (.inl r)) c)) (pos (orig (.inr (.inl r)) c)) fullShare f) : sProp 𝕄)
    rw [show dest (.inr (.inl r)) (orig (.inr (.inl r)) c) = c from Equiv.apply_symm_apply _ _]
    unfold row1Pts
    iintro H; iexists f; iexact H
  have h2 : ∀ f : Buf (Elt F) ((c : Thread nD τ).loc cc0_scratch2), (bigSep Finset.univ fun r : Fin 3 => (((c : Thread nD τ).loc cc0_scratch2) ↦[row2Set (plane (orig (.inr (.inr r)) c))]{fullShare} f : sProp 𝕄))
      ⊢ bigSep Finset.univ fun r : Fin 3 => landAny (F := F) (.inr (.inr r)) (orig (.inr (.inr r)) c) := fun f => bigSep_mono fun r _ => by
    show _ ⊢ (iprop(∃ f, row2Pts (dest (.inr (.inr r)) (orig (.inr (.inr r)) c)) (plane (orig (.inr (.inr r)) c)) fullShare f) : sProp 𝕄)
    rw [show dest (.inr (.inr r)) (orig (.inr (.inr r)) c) = c from Equiv.apply_symm_apply _ _]
    unfold row2Pts
    iintro H; iexists f; iexact H
  rw [bigSep_T]
  unfold slotPts row1Pts row2Pts
  iintro ⟨⟨%f0, H0⟩, ⟨%f1, H1⟩, ⟨%f2, H2⟩⟩
  ihave H0 := (Entails.of_eq (pieces (F := F) (ℓ := (c : Thread nD τ).loc cc0_scratch0) slotSet slot_disj slot_cover c (fun r : Fin 31 => orig (.inl r) c)
      (from31_inj c) (fun r => orig_ne (.inl r) c) rfl fullShare f0)) $$ H0
  ihave H1 := (Entails.of_eq (pieces (F := F) (ℓ := (c : Thread nD τ).loc cc0_scratch1) row1Set row1_disj row1_cover (pos c) (fun r : Fin 7 => pos (orig (.inr (.inl r)) c))
      (from7_inj c) (from7_ne c) rfl fullShare f1)) $$ H1
  ihave H2 := (Entails.of_eq (pieces (F := F) (ℓ := (c : Thread nD τ).loc cc0_scratch2) row2Set row2_disj row2_cover (plane c) (fun r : Fin 3 => plane (orig (.inr (.inr r)) c))
      (from3_inj c) (from3_ne c) rfl fullShare f2)) $$ H2
  icases H0 with ⟨H0, G0⟩
  icases H1 with ⟨H1, G1⟩
  icases H2 with ⟨H2, G2⟩
  isplitl [H0]; · iexists f0; iexact H0
  isplitl [H1]; · iexists f1; iexact H1
  isplitl [H2]; · iexists f2; iexact H2
  isplitl [G0]; · iapply (h0 f0); iexact G0
  isplitl [G1]; · iapply (h1 f1); iexact G1
  iapply (h2 f2); iexact G2

/-- What the launch deals device `c`, the records apart: its places in its cells' rounds, the duties it pays, the credit it waits with. -/
def deal (c : Dev nD) : sProp 𝕄 :=
  iprop((cred (tallyAt (kcell (c, none)) () 31) ∗ atPos ER (kcell (c, none)) 0 ∅ 0)
    ∗ (bigSep Finset.univ fun r : Fin 31 => dutyTok ER (kcell (to31 r c, none)) 0 r)
    ∗ (bigSep Finset.univ fun t : T => tokAt (F := F) t c)
    ∗ (bigSep Finset.univ fun t : T => posAt (F := F) (.inl t) c)
    ∗ (bigSep Finset.univ fun t : T => waitPre (F := F) (.inr t) c))

/-- Reading the device number continues with it. -/
theorem wp_dev (c : Dev nD) (k : Dev nD → CoreProg F PUnit) (Q : PUnit → sProp 𝕄) : WP c (.op .deviceId k) Q = WP c (k c) Q :=
  wp_deviceId 𝒱₀ (c : Thread nD τ) none Set.univ

/-- One device's run. -/
theorem run_body (K : Names) (c : Dev nD) (Q : PUnit → sProp 𝕄) :
    iprop(records X Wt K ∗ deal c ∗ owesE c (O₀ c)
        ∗ (((c : Thread nD τ).loc cc0_stg0_0) ↦{fullShare} (X c))
        ∗ (((c : Thread nD τ).loc cc0_stg1_0) ↦{fullShare} (Wt c))
        ∗ (∃ f, ((c : Thread nD τ).loc cc0_stg2_0) ↦{fullShare} f)
        ∗ (∃ f, ((c : Thread nD τ).loc cc0_scratch0) ↦{fullShare} f)
        ∗ (∃ f, ((c : Thread nD τ).loc cc0_scratch1) ↦{fullShare} f)
        ∗ (∃ f, ((c : Thread nD τ).loc cc0_scratch2) ↦{fullShare} f))
      ⊢ iprop(((owesE c 0
          ∗ (((c : Thread nD τ).loc cc0_stg0_0) ↦{fullShare} (X c))
          ∗ (((c : Thread nD τ).loc cc0_stg1_0) ↦{fullShare} (Wt c))
          ∗ (((c : Thread nD τ).loc cc0_stg2_0) ↦{fullShare} (outV X Wt c))
          ∗ (∃ f, ((c : Thread nD τ).loc cc0_scratch0) ↦{fullShare} f)
          ∗ (∃ f, ((c : Thread nD τ).loc cc0_scratch1) ↦{fullShare} f)
          ∗ (∃ f, ((c : Thread nD τ).loc cc0_scratch2) ↦{fullShare} f)
          ∗ semVal (kcell (c, none)) 0
          ∗ (bigSep Finset.univ fun t : T => closed (F := F) (.inl t) c)
          ∗ (bigSep Finset.univ fun t : T => closed (F := F) (.inr t) c)) -∗ Q ⟨⟩)
        -∗ WP c (cc0_body (F := F) xM (Memref.isWhole_whole _) wM (Memref.isWhole_whole _) oM (Memref.isWhole_whole _) gM (Memref.isWhole_whole _)
            aM (Memref.isWhole_whole _) bM (Memref.isWhole_whole _) cc0_scratch3 cc0_scratch4 cc0_scratch5 cc0_scratch6 cc0_scratch7 cc0_scratch8) Q) := by
  have ht : iprop((bigSep Finset.univ fun t : T => landAny (F := F) t c) ∗ bigSep Finset.univ fun t : T => tokAt (F := F) t c)
      ⊢ bigSep Finset.univ fun t : T => sendTok (F := F) t c := by
    rw [← bigSep_sep']
    exact bigSep_mono fun t _ => .refl _
  rw [body_eq, wp_dev]
  unfold deal
  iintro ⟨#HR, ⟨⟨Hc, Hat⟩, Hsig, Htok, Hpos, Hrec⟩, HO, Hx, Hw, Hout, Hg, Ha, Hb⟩ Hk
  ihave Hsc := (scratch_split c) $$ [Hg Ha Hb]
  · isplitl [Hg]; · iexact Hg
    isplitl [Ha] <;> iassumption
  icases Hsc with ⟨Hg, Ha, Hb, Hland⟩
  iapply (barSigs X Wt K c Q) $$ [HO Hsig Hland]
  · isplitr; · iexact HR
    isplitl [HO]; · iexact HO
    isplitl [Hsig] <;> iassumption
  iintro HO
  unfold fromWait
  iapply (barWait X Wt K c Q) $$ [HO Hc Hat]
  · isplitr; · iexact HR
    isplitl [HO]; · iexact HO
    isplitl [Hc] <;> iassumption
  iintro ⟨HO, Hland, Hz⟩
  ihave Htok := ht $$ [Hland Htok]
  · isplitl [Hland] <;> iassumption
  iapply (run_after X Wt K c Q) $$ [HO Hx Hw Hout Hg Ha Hb Htok Hpos Hrec]
  · isplitr; · iexact HR
    isplitl [HO]; · iexact HO
    isplitl [Hx]; · iexact Hx
    isplitl [Hw]; · iexact Hw
    isplitl [Hout]; · iexact Hout
    isplitl [Hg]; · iexact Hg
    isplitl [Ha]; · iexact Ha
    isplitl [Hb]; · iexact Hb
    isplitl [Htok]; · iexact Htok
    isplitl [Hpos] <;> iassumption
  iintro ⟨HO, Hx, Hw, Hout, Hg, Ha, Hb, Hz0, Hz1⟩
  iapply Hk
  isplitl [HO]; · iexact HO
  isplitl [Hx]; · iexact Hx
  isplitl [Hw]; · iexact Hw
  isplitl [Hout]; · iexact Hout
  isplitl [Hg]; · iexact Hg
  isplitl [Ha]; · iexact Ha
  isplitl [Hb]; · iexact Hb
  isplitl [Hz]; · iexact Hz
  isplitl [Hz0] <;> iassumption

end Cert.A2A

end
-- ==== Proof.Credit.lean ====
/-
The launch credit: what all the devices owe a cell at launch is what its owner waits for.
-/
module

public import proofs.«01_k».proof.Proof.Body

@[expose] public section

noncomputable section

namespace Cert.A2A

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

local notation "𝕄" => MT nD τ sig Unit (Elt F) ℕ UU ℕ

/-- A sum along a list without repetitions that lists everything is the sum over everything. -/
theorem sum_listed {α M : Type} [Fintype α] [DecidableEq α] [AddCommMonoid M] (l : List α) (hn : l.Nodup) (hu : l.toFinset = Finset.univ) (f : α → M) :
    (l.map f).sum = ∑ a, f a := by
  rw [← hu, List.sum_toFinset f hn]

/-- What a device owes at launch: a unit to every other device's barrier, and every transfer's credit. -/
theorem O₀_eq (d : Dev nD) : O₀ d = (∑ i, sO d i) + ∑ t, xO d t := by
  unfold O₀ O₁ O₂ O₃
  rw [sum_listed _ sigList_nodup sigList_univ, sum_listed _ steps31_nodup steps31_univ, sum_listed _ steps7_nodup steps7_univ,
    sum_listed _ steps3_nodup steps3_univ, Fintype.sum_sum_type, Fintype.sum_sum_type]

/-- A sum of tallies at one cell. -/
theorem sum_tally_at {α : Type} (s : Finset α) (f : α → CellTallies nD τ sig Unit) (g : GSem nD τ sig) (u : Unit) :
    (∑ a ∈ s, f a) g u = ∑ a ∈ s, f a g u := by
  rw [Finset.sum_apply, Finsupp.finset_sum_apply]

/-- What a device owes at launch, at one cell. -/
theorem O₀_at (d : Dev nD) (g : GSem nD τ sig) : O₀ d g () = (∑ i, sO d i g ()) + ∑ t, xO d t g () := by
  rw [O₀_eq, Pi.add_apply, Finsupp.add_apply, sum_tally_at, sum_tally_at]

/-- Two cells are one when their devices and their roles are. -/
theorem kcell_eq_iff (c d : Dev nD) (x y : Option (T ⊕ T)) : kcell (c, x) = kcell (d, y) ↔ c = d ∧ x = y :=
  ⟨fun h => Prod.mk.inj (kcell_inj h), fun h => by rw [h.1, h.2]⟩

/-- The signal of `d` to `i`, at a cell. -/
theorem sO_at (d i c : Dev nD) (x : Option (T ⊕ T)) : sO d i (kcell (c, x)) () = if x = none ∧ c = i ∧ i ≠ d then 1 else 0 := by
  unfold sO
  split
  · rename_i h
    rw [if_neg fun h' => h'.2.2 h]; rfl
  · rename_i h
    rw [tallyAt_apply]
    exact if_congr ⟨fun h' => ⟨((kcell_eq_iff ..).mp h'.1).2, ((kcell_eq_iff ..).mp h'.1).1, h⟩, fun h' => ⟨(kcell_eq_iff ..).mpr ⟨h'.2.1, h'.1⟩, rfl⟩⟩ rfl rfl

/-- The credit of transfer `t` of `d`, at a cell. -/
theorem xO_at (d c : Dev nD) (t : T) (x : Option (T ⊕ T)) : xO d t (kcell (c, x)) () = if c = dest t d ∧ x = some (.inr t) then N t else 0 := by
  unfold xO
  rw [tallyAt_apply]
  exact if_congr ⟨fun h' => (kcell_eq_iff ..).mp h'.1, fun h' => ⟨(kcell_eq_iff ..).mpr h', rfl⟩⟩ rfl rfl

/-- The other devices are 31. -/
theorem card_others (c : Dev nD) : (Finset.univ.filter fun d : Dev nD => c ≠ d).card = 31 := by
  rw [Finset.filter_ne Finset.univ c, Finset.card_erase_of_mem (Finset.mem_univ c), Finset.card_univ, Fintype.card_fin]; rfl

/-- All that is owed to a barrier cell: 31 units. -/
theorem owed_bar (c : Dev nD) : ∑ d : Dev nD, O₀ d (kcell (c, none)) () = 31 := by
  have h (d : Dev nD) : O₀ d (kcell (c, none)) () = if c ≠ d then 1 else 0 := by
    rw [O₀_at, Finset.sum_congr rfl fun i _ => sO_at d i c none, Finset.sum_congr rfl fun t _ => xO_at d c t none,
      Finset.sum_eq_zero (s := (Finset.univ : Finset T)) (fun t _ => if_neg fun h => Option.some_ne_none _ h.2.symm), Nat.add_zero,
      Finset.sum_eq_single c (fun i _ hi => if_neg fun h => hi h.2.1.symm) (fun h => absurd (Finset.mem_univ c) h)]
    exact if_congr ⟨fun h => h.2.2, fun h => ⟨rfl, rfl, h⟩⟩ rfl rfl
  rw [Finset.sum_congr rfl fun d _ => h d, Finset.sum_boole, card_others]; rfl

/-- All that is owed to the landing cell of transfer `t`: its credit, once. -/
theorem owed_land (c : Dev nD) (t : T) : ∑ d : Dev nD, O₀ d (kcell (c, some (.inr t))) () = N t := by
  have h (d : Dev nD) : O₀ d (kcell (c, some (.inr t))) () = if c = dest t d then N t else 0 := by
    rw [O₀_at, Finset.sum_congr rfl fun i _ => sO_at d i c (some (.inr t)), Finset.sum_congr rfl fun t' _ => xO_at d c t' (some (.inr t)),
      Finset.sum_eq_zero (s := (Finset.univ : Finset (Dev nD))) (fun i _ => if_neg fun h => Option.some_ne_none _ h.1), Nat.zero_add,
      Finset.sum_eq_single t (fun t' _ ht => if_neg fun h => ht (Sum.inr.inj (Option.some.inj h.2)).symm) (fun h => absurd (Finset.mem_univ t) h)]
    exact if_congr ⟨fun h => h.1, fun h => ⟨h, rfl⟩⟩ rfl rfl
  rw [Finset.sum_congr rfl fun d _ => h d,
    Finset.sum_eq_single ((dest t).symm c) (fun d _ hd => if_neg fun h => hd (by rw [h, Equiv.symm_apply_apply])) (fun h => absurd (Finset.mem_univ _) h),
    if_pos (Equiv.apply_symm_apply _ _).symm]

/-- The launch credit of a cell, from what is owed to it. -/
theorem launch_at (c : Dev nD) (x : Option (T ⊕ T)) (n : ℕ) (h : ∑ d : Dev nD, O₀ d (kcell (c, x)) () = n) :
    tallyOn (kcell (c, x)) (launchCredit (Pipeline.owing O₀) 0 (kcell (c, x))) = (tallyAt (kcell (c, x)) () n : CellTallies nD τ sig Unit) := by
  unfold tallyAt; refine congrArg _ (Finsupp.ext fun u => ?_); cases u
  rw [Pipeline.launchCredit_owing, Finsupp.single_eq_same, h]

/-- Everything over the cells' kinds: the barrier's and the transfers'. -/
theorem bigSep_kinds {A : Type} [Fintype A] [DecidableEq A] (Φ : Option A → sProp 𝕄) :
    bigSep Finset.univ Φ = iprop(Φ none ∗ bigSep Finset.univ fun a => Φ (some a)) :=
  bigSep_others none some (Option.some_injective A) Option.some_ne_none Fintype.card_option Φ

/-- Device `c`'s launch credit: its barrier's 31 units and every landing's credit. -/
theorem creds (c : Dev nD) :
    (Pipeline.launchCred O₀ c : sProp 𝕄)
      ⊢ iprop(cred (tallyAt (kcell (c, none)) () 31) ∗ bigSep Finset.univ fun t : T => cred (tallyAt (kcell (c, some (.inr t))) () (N t))) := by
  have hj : Function.Injective fun o : Option T => csem c (o.map Sum.inr) :=
    fun a b h => Option.map_injective Sum.inr_injective (csem_inj c h)
  unfold Pipeline.launchCred
  refine BIBase.Entails.trans (bigSep_subset (Finset.subset_univ (Finset.univ.map ⟨_, hj⟩))) (Entails.of_eq ?_)
  rw [bigSep_map, bigSep_kinds]
  exact congrArg₂ (fun P Q => iprop(P ∗ Q)) (congrArg cred (launch_at c none 31 (owed_bar c)))
    (bigSep_congr fun t _ => congrArg cred (launch_at c (some (.inr t)) (N t) (owed_land c t)))

end Cert.A2A

end
-- ==== Proof.Launch.lean ====
/-
The launch: the cells' ghost state allocated and dealt out, the body put under the pipeline's one grid point, and the run
of the program from any memory with zero counters.
-/
module

public import proofs.«01_k».proof.Proof.Credit
public import Idealize.ShloMosaic.Lib.Pipeline.CollectiveSegs

@[expose] public section

noncomputable section

namespace Cert.A2A

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat)
open Cert.KernelIdeal Cert.KernelIdeal.Gen

variable {F : FTy → Type} [FloatOps F]

local notation "𝕄" => MT nD τ sig Unit (Elt F) ℕ UU ℕ

/-! ## The kernel's own semaphores -/

/-- Every DMA semaphore but the three staging ones. -/
def osem (i : Fin 88) : SemLoc sig := .dma ⟨i.val + 3, Nat.add_lt_add_right i.isLt 3⟩

/-- Different places are different semaphores. -/
theorem osem_inj : Function.Injective osem := fun i j h => Fin.ext (Nat.add_right_cancel (congrArg Fin.val (SemLoc.dma.inj h)))

/-- The kernel's own semaphores are what the launch asks of them: apart from the staging ones, and all of them. -/
theorem ownSemFacts : Pipeline.OwnSemFacts cfg0.spec osem := by decide

/-- A transfer's semaphore is none of the three staging ones. -/
theorem three_le_xSem (c : Dev nD) (x : T ⊕ T) : 3 ≤ (xSem c x).val := by
  match x with
  | .inl t => show 3 ≤ (sSem t c).val; rw [sSem_val]; rcases t with r | r | r <;> (simp only [sIx]; omega)
  | .inr t => show 3 ≤ (iSem t c).val; rw [iSem_val]; rcases t with r | r | r <;> (simp only [iIx]; omega)

/-- Where a transfer's semaphore stands among them. -/
def oIx (c : Dev nD) (x : T ⊕ T) : Fin 88 := ⟨(xSem c x).val - 3, by have h := (xSem c x).isLt; have := three_le_xSem c x; change (xSem c x).val < 91 at h; omega⟩

/-- The semaphore at a transfer's place is the transfer's. -/
theorem osem_oIx (c : Dev nD) (x : T ⊕ T) : osem (oIx c x) = csem c (some x) :=
  congrArg SemLoc.dma (Fin.ext (Nat.sub_add_cancel (three_le_xSem c x)))

/-- Different transfers of a device have different places. -/
theorem oIx_inj (c : Dev nD) : Function.Injective (oIx c) := fun x y h =>
  Option.some.inj (csem_inj c (by rw [← osem_oIx, ← osem_oIx, h]))

/-- The semaphores of device `c` no transfer uses (a device sends to itself neither blocks nor maxima), at zero. -/
def spare (c : Dev nD) : sProp 𝕄 := bigSep (Finset.univ \ Finset.univ.map ⟨oIx c, oIx_inj c⟩) fun i => semVal ((c : Thread nD τ), osem i) 0

omit [FloatOps F] in
/-- Everything over the transfers' cells: the senders' and the targets'. -/
theorem bigSep_sides (Φ : T ⊕ T → sProp 𝕄) :
    bigSep Finset.univ Φ = iprop((bigSep Finset.univ fun t => Φ (.inl t)) ∗ bigSep Finset.univ fun t => Φ (.inr t)) :=
  bigSep_univ_sum Φ

omit [FloatOps F] in
/-- The kernel's own semaphores are the transfers' and the spare ones; -/
theorem ownSems0_eq (c : Dev nD) : (Pipeline.ownSems0 (Ix := Unit) (Name := ℕ) (U := UU) (Lvl := ℕ) (Val := Elt F) (τ := τ) osem c : sProp 𝕄)
    = iprop((bigSep Finset.univ fun x : T ⊕ T => semVal (kcell (c, some x)) 0) ∗ spare c) := by
  unfold Pipeline.ownSems0 spare
  rw [bigSep_sdiff_split (Finset.subset_univ (Finset.univ.map ⟨oIx c, oIx_inj c⟩)), bigSep_map]
  refine congrArg₂ (fun P Q => iprop(P ∗ Q)) (bigSep_congr fun x _ => ?_) rfl
  exact congrArg (fun s => semVal ((c : Thread nD τ), s) 0) (osem_oIx c x)

omit [FloatOps F] in
/-- the barrier semaphore is the launch's one unscoped semaphore. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl

/-- A device's semaphores at launch: one for every cell, and the spare ones. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun x : Option (T ⊕ T) => semVal (kcell (c, x)) 0) ∗ spare c) : sProp 𝕄) := by
  rw [ownSems0_eq, unscopedSems0_eq, bigSep_kinds (F := F)]
  iintro ⟨⟨HX, HS⟩, HB⟩
  isplitr [HS]
  · isplitl [HB]; · iexact HB
    iexact HX
  iexact HS

/-! ## What the launch deals -/

section Launch

variable (m : (ℓ : Loc nD τ sig) → Buf (Elt F) ℓ) (ρ : Dev nD → PrngReg)

/-- The memory at launch: counters at zero. -/
def s₀ : MemSt nD τ sig (Elt F) := ⟨m, fun _ => 0, ρ⟩

/-- The blocks of `x` and the copies of the weights, as staged. -/
def Xs (c : Dev nD) : S4096x128.Idx → F .f32 := (win0_0.blk (0 : Fin 1)).view.read (Elt F) ((s₀ m ρ).mem ((c : Thread nD τ).loc main_arg0))
/-- The copies of the weights, as staged. -/
def Ws (c : Dev nD) : S4096x2048.Idx → F .f32 := (win0_1.blk (0 : Fin 1)).view.read (Elt F) ((s₀ m ρ).mem ((c : Thread nD τ).loc main_arg1))

/-- The schedule of the rounds, at what the launch staged. -/
abbrev Rd : Rounds.Schedule (GSem nD τ sig) (Fin 31) 𝕄 := sched (Xs m ρ) (Ws m ρ)

/-- All cells of the exchanges. -/
def ringCells : Finset (GSem nD τ sig) := Finset.univ.map ⟨kcell, kcell_inj⟩

/-- A device's own cells' duty tokens as minted: its barrier's 31, one of each of its transfers' cells. -/
abbrev tokOf (cj : Dev nD × (Fin 31 ⊕ (T ⊕ T))) : GSem nD τ sig × ℕ × Fin 31 := match cj.2 with
  | .inl r => (kcell (cj.1, none), 0, r)
  | .inr x => (kcell (cj.1, some x), 0, 0)

/-- No duty token is minted twice. -/
theorem tokOf_inj : Function.Injective tokOf := by
  rintro ⟨c, j⟩ ⟨d, k⟩ h
  match j, k with
  | .inl r, .inl r' =>
    have h1 := (kcell_eq_iff ..).mp (congrArg Prod.fst h)
    have h2 : r = r' := congrArg (fun x => x.2.2) h
    exact Prod.ext h1.1 (congrArg Sum.inl h2)
  | .inl r, .inr x => exact absurd ((kcell_eq_iff ..).mp (congrArg Prod.fst h)).2.symm (Option.some_ne_none _)
  | .inr x, .inl r => exact absurd ((kcell_eq_iff ..).mp (congrArg Prod.fst h)).2 (Option.some_ne_none _)
  | .inr x, .inr y =>
    have h1 := (kcell_eq_iff ..).mp (congrArg Prod.fst h)
    exact Prod.ext h1.1 (congrArg Sum.inr (Option.some.inj h1.2))

/-- All duty tokens of the exchanges. -/
def ringToks : Finset (GSem nD τ sig × ℕ × Fin 31) := Finset.univ.map ⟨tokOf, tokOf_inj⟩

/-- The launch element: the pipeline's own, and every cell of the exchanges with its tokens. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun r : Fin 31 => dutyTok ER (kcell (c, none)) 0 r)
    ∗ (bigSep Finset.univ fun t : T => dutyTok ER (kcell (c, some (.inl t))) 0 0) ∗ bigSep Finset.univ fun t : T => dutyTok ER (kcell (c, some (.inr t))) 0 0)

/-- What the launch element deals device `c`. -/
def G (c : Dev nD) : sProp 𝕄 :=
  iprop((bigSep Finset.univ fun x : Option (T ⊕ T) => roundState ER (Rd m ρ) (kcell (c, x)) 0)
    ∗ (bigSep Finset.univ fun x : Option (T ⊕ T) => iprop(atPos ER (kcell (c, x)) 0 ∅ 0 ∗ reached ER (kcell (c, x)) 0)) ∗ toks c)

/-- What a device holds of it that no other does: its cells' positions, the tokens of the duties it pays, its spare semaphores. -/
def linear (c : Dev nD) : sProp 𝕄 :=
  iprop((bigSep Finset.univ fun x : Option (T ⊕ T) => atPos ER (kcell (c, x)) 0 ∅ 0)
    ∗ ((bigSep Finset.univ fun r : Fin 31 => dutyTok ER (kcell (to31 r c, none)) 0 r) ∗ bigSep Finset.univ fun t : T => tokAt t c) ∗ spare c)

/-- What the global step makes of it. -/
def G' (c : Dev nD) : sProp 𝕄 := iprop(∃ K : Names, (bigSep Finset.univ fun ck => recordAt (Xs m ρ) (Ws m ρ) K ck) ∗ linear c)

omit [FloatOps F] in
/-- The minting of the tokens, device by device. -/
theorem ringToks_eq : bigSep ringToks (fun x => (dutyTok ER x.1 x.2.1 x.2.2 : sProp 𝕄)) = bigSep Finset.univ fun c : Dev nD => toks c := by
  unfold ringToks
  rw [bigSep_map, bigSep_univ_prod]
  refine bigSep_congr fun c _ => ?_
  unfold toks
  rw [bigSep_univ_sum]
  refine congrArg₂ (fun P Q => iprop(P ∗ Q)) rfl ?_
  rw [bigSep_univ_sum]
  rfl

/-- The exchanges' part of the launch element, dealt to the devices. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Option (T ⊕ T) => Φ (kcell (c, x)) := by
    unfold ringCells; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G; simp only [bigSep_sep']
  isplitl [Hst']; · iexact Hst'
  isplitl [Hat' Hr']
  · isplitl [Hat'] <;> iassumption
  iexact Htok'

/-- One device's cells opened for business: their invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Option (T ⊕ T) => iprop(∃ κ : ℕ, cellInv ER (Rd m ρ) κ (kcell (c, x))))
          ∗ (bigSep Finset.univ fun x : Option (T ⊕ T) => iprop(atPos ER (kcell (c, x)) 0 ∅ 0 ∗ reached ER (kcell (c, x)) 0)) ∗ toks c ∗ spare c) := by
  unfold G
  iintro ⟨Hos, Hus, Hst, Hat, Htok⟩
  ihave Hv := (sems0_eq (F := F) c) $$ [Hos Hus]
  · isplitl [Hos] <;> iassumption
  icases Hv with ⟨Hv, Hsp⟩
  imod (show iprop((bigSep Finset.univ fun x : Option (T ⊕ T) => semVal (kcell (c, x)) 0) ∗ bigSep Finset.univ fun x : Option (T ⊕ T) => roundState ER (Rd m ρ) (kcell (c, x)) 0)
      ⊢ (|={Set.univ}=> bigSep Finset.univ fun x : Option (T ⊕ T) => iprop(∃ κ : ℕ, cellInv ER (Rd m ρ) κ (kcell (c, x))) : sProp 𝕄) from by
        rw [← bigSep_sep']
        exact BIBase.Entails.trans (bigSep_mono fun x _ => (Rounds.body_intro ER (Rd m ρ) (kcell (c, x))).trans inv_alloc) (bigSep_fupd _ _)) $$ [Hv Hst] with Hinv
  · isplitl [Hv] <;> iassumption
  imodintro
  isplitl [Hinv]; · iexact Hinv
  isplitl [Hat]; · iexact Hat
  isplitl [Htok]; · iexact Htok
  iexact Hsp

omit [FloatOps F] in
/-- Tokens minted at every device for a family of duties, dealt to the devices that pay them. -/
theorem deal_around {A : Type} [Fintype A] [DecidableEq A] (e : A → Dev nD ≃ Dev nD) (Φ : A → Dev nD → sProp 𝕄) :
    (bigSep Finset.univ fun c : Dev nD => bigSep Finset.univ fun a : A => Φ a c) = bigSep Finset.univ fun c : Dev nD => bigSep Finset.univ fun a : A => Φ a (e a c) := by
  rw [bigSep_univ_comm, bigSep_univ_comm (fun (c : Dev nD) (a : A) => Φ a (e a c))]
  exact bigSep_congr fun a _ => bigSep_univ_equiv (e a) (Φ a)

omit [FloatOps F] in
/-- The tokens dealt: a barrier's to the devices that signal it, a landing's to the device that sends there. -/
theorem toks_around : (bigSep Finset.univ fun c : Dev nD => (toks c : sProp 𝕄))
    ⊢ bigSep Finset.univ fun c : Dev nD => iprop((bigSep Finset.univ fun r : Fin 31 => dutyTok ER (kcell (to31 r c, none)) 0 r) ∗ bigSep Finset.univ fun t : T => tokAt t c) := by
  unfold toks tokAt
  simp only [bigSep_sep']
  rw [deal_around to31 (fun (r : Fin 31) (c : Dev nD) => (dutyTok ER (kcell (c, none)) 0 r : sProp 𝕄)),
    deal_around dest (fun (t : T) (c : Dev nD) => (dutyTok ER (kcell (c, some (.inr t))) 0 0 : sProp 𝕄))]

omit [FloatOps F] in
/-- What everyone may know goes to everyone. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

omit [FloatOps F] in
/-- What every device holds for itself, gathered. -/
theorem linear_all : iprop((bigSep Finset.univ fun c : Dev nD => bigSep Finset.univ fun x : Option (T ⊕ T) => (atPos ER (kcell (c, x)) 0 ∅ 0 : sProp 𝕄))
    ∗ (bigSep Finset.univ fun c : Dev nD => iprop((bigSep Finset.univ fun r : Fin 31 => dutyTok ER (kcell (to31 r c, none)) 0 r) ∗ bigSep Finset.univ fun t : T => tokAt t c))
    ∗ bigSep Finset.univ fun c : Dev nD => spare c) = bigSep Finset.univ fun c : Dev nD => linear c := by
  unfold linear
  exact ((bigSep_sep' ..).trans (congrArg₂ (fun P Q => iprop(P ∗ Q)) rfl (bigSep_sep' ..))).symm

/-- The cells' invariants at their names, and every device's own. -/
theorem regroup :
    (bigSep Finset.univ fun c : Dev nD => iprop((bigSep Finset.univ fun x : Option (T ⊕ T) => iprop(∃ κ : ℕ, cellInv ER (Rd m ρ) κ (kcell (c, x))))
          ∗ (bigSep Finset.univ fun x : Option (T ⊕ T) => iprop(atPos ER (kcell (c, x)) 0 ∅ 0 ∗ reached ER (kcell (c, x)) 0)) ∗ toks c ∗ spare c) : sProp 𝕄)
      ⊢ bigSep Finset.univ (G' m ρ) := by
  classical
  rw [bigSep_sep', bigSep_sep', bigSep_sep', ← bigSep_univ_prod (fun ck : Dev nD × Option (T ⊕ T) => iprop(∃ κ : ℕ, cellInv ER (Rd m ρ) κ (kcell ck))),
    bigSep_congr (s := Finset.univ) (fun (c : Dev nD) _ => bigSep_sep' Finset.univ (fun x : Option (T ⊕ T) => (atPos ER (kcell (c, x)) 0 ∅ 0 : sProp 𝕄)) (fun x => reached ER (kcell (c, x)) 0)),
    bigSep_sep', ← bigSep_univ_prod (fun ck : Dev nD × Option (T ⊕ T) => (reached ER (kcell ck) 0 : sProp 𝕄))]
  iintro ⟨HI, ⟨Hat, #HR⟩, Htok, Hsp⟩
  ihave HK := (BI.bigSep_exists_pi Finset.univ (fun (ck : Dev nD × Option (T ⊕ T)) (κ : ℕ) => (cellInv ER (Rd m ρ) κ (kcell ck) : sProp 𝕄))) $$ HI
  icases HK with ⟨%K, #HI⟩
  ihave Htk := (toks_around (F := F)) $$ Htok
  have hi (c : Dev nD) : iprop((bigSep Finset.univ fun ck => recordAt (Xs m ρ) (Ws m ρ) K ck) ∗ linear c) ⊢ G' m ρ c := by
    unfold G'
    iintro H
    iexists K
    iexact H
  iapply (bigSep_with_persistent (R := bigSep Finset.univ fun ck => recordAt (Xs m ρ) (Ws m ρ) K ck) fun c _ => hi c)
  isplitr
  · unfold recordAt
    rw [bigSep_sep']
    isplitl; · iexact HI
    iexact HR
  · iapply (Entails.of_eq linear_all)
    isplitl [Hat]; · iexact Hat
    isplitl [Htk]; · iexact Htk
    iexact Hsp

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  BIBase.Entails.trans (BIBase.Entails.trans (bigSep_mono fun c _ => core_alloc m ρ c) (bigSep_fupd _ _)) (BI.fupd_mono (regroup m ρ))

/-! ## The pipeline's one point -/

/-- What device `c`'s body starts from. -/
def start (c : Dev nD) : sProp 𝕄 := iprop((∃ K : Names, records (Xs m ρ) (Ws m ρ) K ∗ deal c) ∗ spare c)

/-- A device's scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- What the body starts from besides the staged buffers. -/
def Φ₀ (c : Dev nD) : sProp 𝕄 := iprop(start m ρ c ∗ scratch c)

/-- After the point: the scratch buffers at some contents and every cell closed, its counter at zero. -/
def Φ₁ (c : Dev nD) : sProp 𝕄 :=
  iprop(scratch c ∗ semVal (kcell (c, none)) 0 ∗ ((bigSep Finset.univ fun t : T => closed (.inl t) c) ∗ bigSep Finset.univ fun t : T => closed (.inr t) c) ∗ spare c)

/-- The proof data of the pipeline: its arrays as launched, its staged buffers after the body, what is held and owed before and after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xs m ρ c
    | ⟨1, _⟩ => Ws m ρ c
    | ⟨2, _⟩ => outV (Xs m ρ) (Ws m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Every window is held whole. -/
theorem share_eq (c : Dev nD) (w : Fin cfg0.W) : (dats m ρ 0 c).share w = fullShare := by unfold Dat.share; split <;> rfl

omit [FloatOps F] in
/-- Everything over the windows, one by one. -/
theorem bigSep_W (Φ : Fin cfg0.W → sProp 𝕄) : bigSep Finset.univ Φ = iprop(Φ (0 : Fin 3) ∗ Φ (1 : Fin 3) ∗ Φ (2 : Fin 3)) := bigSep_W0 Φ

/-- The window of `x` is fetched at the one point; -/
theorem fetch_0 : (cfg0.win (0 : Fin 3)).fetch t0_0 = true := rfl
/-- so is the one of the weights. -/
theorem fetch_1 : (cfg0.win (1 : Fin 3)).fetch t0_0 = true := rfl

omit [FloatOps F] in
/-- Owning a whole buffer at contents is its points-to at these contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it takes back. -/
def bodyPost (c : Dev nD) : sProp 𝕄 :=
  iprop(Φ₁ c ∗ (dats m ρ 0 c).owesAt () t0_0.succ ∗ stg c cc0_stg0_0 (Xs m ρ c) ∗ stg c cc0_stg1_0 (Ws m ρ c) ∗ stg c cc0_stg2_0 (outV (Xs m ρ) (Ws m ρ) c))

/-- The body, from what the pipeline hands it to what the pipeline takes back. -/
theorem sound_body (c : Dev nD) (Kt : PUnit → sProp 𝕄) :
    iprop(bodyPre m ρ c ∗ (bodyPost m ρ c -∗ Kt ⟨⟩))
      ⊢ WP c (cc0_body xM (Memref.isWhole_whole _) wM (Memref.isWhole_whole _) oM (Memref.isWhole_whole _) gM (Memref.isWhole_whole _)
          aM (Memref.isWhole_whole _) bM (Memref.isWhole_whole _) cc0_scratch3 cc0_scratch4 cc0_scratch5 cc0_scratch6 cc0_scratch7 cc0_scratch8) Kt := by
  unfold bodyPre Φ₀ start scratch
  iintro ⟨⟨⟨⟨⟨%K, Hrec, Hdeal⟩, Hsp⟩, Hs0, Hs1, Hs2⟩, Ho, ⟨%d0, %g0, %hg0, Hx⟩, ⟨%d1, %g1, %hg1, Hw⟩, ⟨%d2, %g2, %hg2, Hout⟩⟩, Hk⟩
  have hx : g0 = Xs m ρ c := by rw [hg0]; unfold Dat.before; rw [if_pos fetch_0]; rfl
  have hw : g1 = Ws m ρ c := by rw [hg1]; unfold Dat.before; rw [if_pos fetch_1]; rfl
  subst hx hw
  unfold Dat.owesAt Pipeline.owesWithin
  icases Ho with ⟨%W, -, Ho⟩
  iapply (run_body (Xs m ρ) (Ws m ρ) K c Kt) $$ [Hrec Hdeal Ho Hx Hw Hout Hs0 Hs1 Hs2]
  · isplitl [Hrec]; · iexact Hrec
    isplitl [Hdeal]; · iexact Hdeal
    isplitl [Ho]
    · unfold owesE; iexists W; iexact Ho
    isplitl [Hx]; · iexact Hx
    isplitl [Hw]; · iexact Hw
    isplitl [Hout]; · iexists g2; iexact Hout
    isplitl [Hs0]; · iexact Hs0
    isplitl [Hs1]; · iexact Hs1
    iexact Hs2
  iintro ⟨Ho, Hx, Hw, Hout, Hs0, Hs1, Hs2, Hb, Hl, Hr⟩
  iapply Hk
  unfold bodyPost Φ₁ scratch Dat.owesAt Pipeline.owesWithin owesE
  icases Ho with ⟨%W', Ho⟩
  isplitl [Hs0 Hs1 Hs2 Hb Hl Hr Hsp]
  · isplitl [Hs0 Hs1 Hs2]
    · isplitl [Hs0]; · iexact Hs0
      isplitl [Hs1]; · iexact Hs1
      iexact Hs2
    isplitl [Hb]; · iexact Hb
    isplitl [Hl Hr]
    · isplitl [Hl] <;> iassumption
    iexact Hsp
  isplitl [Ho]
  · iexists W'
    isplitr
    · ipureintro; exact fun _ _ => Or.inl trivial
    · iexact Ho
  isplitl [Hx]
  · iexists (Xs m ρ c); isplitr; · ipureintro; rfl
    iexact Hx
  isplitl [Hw]
  · iexists (Ws m ρ c); isplitr; · ipureintro; rfl
    iexact Hw
  iexists (outV (Xs m ρ) (Ws m ρ) c); isplitr; · ipureintro; rfl
  iexact Hout

set_option maxRecDepth 4000 in
/-- The library's body obligation on core `c`. -/
theorem body_obligation (c : Dev nD) : Pipeline.BodyObligation (dats (F := F) m ρ 0 c) (defs₀ (F := F)) 𝒱₀ () Set.univ := fun t => by
  rw [show t = t0_0 from fin_N0 t]
  rw [bigSep_W, bigSep_W]
  simp only [owns_whole_eq]
  show bodyPre m ρ c ⊢ WP c (cc0_body xM (Memref.isWhole_whole _) wM (Memref.isWhole_whole _) oM (Memref.isWhole_whole _) gM (Memref.isWhole_whole _)
          aM (Memref.isWhole_whole _) bM (Memref.isWhole_whole _) cc0_scratch3 cc0_scratch4 cc0_scratch5 cc0_scratch6 cc0_scratch7 cc0_scratch8) (fun _ => bodyPost m ρ c)
  iintro H
  iapply (sound_body m ρ c fun _ => bodyPost m ρ c)
  isplitl [H]; · iexact H
  iintro H; iexact H

/-! ## The theorem's side conditions -/

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' linear
  iintro ⟨-, Hlev, Hcr, -, ⟨%K, Hrec, Hat, ⟨Htb, Htt⟩, Hsp⟩⟩
  ihave Hc := (creds (F := F) c) $$ Hcr
  icases Hc with ⟨H1, HN⟩
  ihave Hat' := (Entails.of_eq (bigSep_kinds (F := F) fun x : Option (T ⊕ T) => atPos ER (kcell (c, x)) 0 ∅ 0)) $$ Hat
  icases Hat' with ⟨HaB, HaX⟩
  ihave HaX' := (Entails.of_eq (bigSep_sides (fun x : T ⊕ T => (atPos ER (kcell (c, some x)) 0 ∅ 0 : sProp 𝕄)))) $$ HaX
  icases HaX' with ⟨HaS, HaR⟩
  imodintro
  unfold start records levs deal
  isplitl
  · isplitr [Hsp]
    · iexists K
      isplitl [Hrec Hlev]
      · isplitl [Hrec] <;> iassumption
      isplitl [H1 HaB]
      · isplitl [H1] <;> iassumption
      isplitl [Htb]; · iexact Htb
      isplitl [Htt]; · iexact Htt
      isplitl [HaS]; · iexact HaS
      iapply (Entails.of_eq (bigSep_sep' Finset.univ (fun t : T => (cred (tallyAt (kcell (c, some (.inr t))) () (N t)) : sProp 𝕄))
        (fun t : T => atPos ER (kcell (c, some (.inr t))) 0 ∅ 0)).symm)
      isplitl [HN]; · iexact HN
      iexact HaR
    · iexact Hsp
  · iempintro

/-- What the launch gives a device is what its body starts from; -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- what the body ends with gives the semaphores and the scratch back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_sides]
  unfold Φ₁ scratch closed
  iintro ⟨Hs, Hb, ⟨Hl, Hr⟩, Hsp⟩
  isplitl [Hb]; · iexact Hb
  isplitl [Hl Hr Hsp]
  · isplitl [Hl Hr]
    · isplitl [Hl]; · iexact Hl
      iexact Hr
    iexact Hsp
  iexact Hs

/-- The staging semaphores are below everything. -/
theorem lv_stage (c : Dev nD) (q : DmaSem sig) (h : q.val < 3) : lv ((c : Thread nD τ), .dma q) () = 0 := by
  have hq : q = ⟨0, by decide⟩ ∨ q = ⟨1, by decide⟩ ∨ q = ⟨2, by decide⟩ := by
    rcases (show q.val = 0 ∨ q.val = 1 ∨ q.val = 2 by omega) with h | h | h
    · exact Or.inl (Fin.ext h)
    · exact Or.inr (Or.inl (Fin.ext h))
    · exact Or.inr (Or.inr (Fin.ext h))
  rcases hq with rfl | rfl | rfl <;> rfl

/-- The pipeline's own waits are allowed under what a device owes. -/
theorem waits (c : Dev nD) : (levAts L lv : sProp 𝕄) ⊢ Pipeline.cellsWaits cfgs (dats m ρ) () 0 c :=
  Pipeline.cellsWaits_intro cfgs (dats m ρ) () 0 c fun w s t =>
    mayWait_above c _ _ (by
      rw [lv_stage c _ (by fin_cases w <;> fin_cases s <;> decide)]
      rcases t with ⟨_ | _, ht⟩
      · exact above_O₀ c
      · exact Above.zero 0)

/-! ## The run -/

/-- Every window's array at what the pipeline leaves in it. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- From any memory with zero counters every weakly fair execution of the 32 devices' programs terminates, with each
    device's result at the computed contents, its arguments unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Launch

end Cert.A2A

end
-- ==== Proof.Frames.lean ====
/-
The frame, over any float values: the run ends, with the arguments unchanged and every counter at zero.
-/
module

public import proofs.«01_k».proof.Proof.Launch

@[expose] public section

noncomputable section

namespace Cert.A2A

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- After the run device `c`'s block of `x` holds what it held, -/
theorem end_x {r : PUnit × MemSt nD τ sig (Elt F)} (h : QC m ρ r) (c : Dev nD) :
    r.2.mem ((c : Thread nD τ).loc main_arg0) = m ((c : Thread nD τ).loc main_arg0) :=
  (h c (0 : Fin 3)).trans ((dats (F := F) m ρ 0 c).arrAt_in (0 : Fin 3) rfl _)

/-- and so does its copy of the weights. -/
theorem end_w {r : PUnit × MemSt nD τ sig (Elt F)} (h : QC m ρ r) (c : Dev nD) :
    r.2.mem ((c : Thread nD τ).loc main_arg1) = m ((c : Thread nD τ).loc main_arg1) :=
  (h c (1 : Fin 3)).trans ((dats (F := F) m ρ 0 c).arrAt_in (1 : Fin 3) rfl _)

/-- The frame of the kernel's program, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨end_x m ρ h.1 c, end_w m ρ h.1 c⟩, h.2⟩) (run_main m ρ)

end Cert.A2A

end
-- ==== Proof.Maxima.lean ====
/-
The global maximum, over the extended reals: a reduction from minus infinity to one element is the least upper bound of
its source, so the two-stage maximum the devices agree on bounds the same numbers as one over all of them.
-/
module

public import proofs.«01_k».proof.Proof.Contents
public import Idealize.ShloMosaic.PureOps.Ideal.Laws
public import Idealize.ShloMosaic.PureOps.Reduce
public import Idealize.ShloMosaic.Lib.Pipeline.Value
public import Mathlib.Data.Finset.Fold

@[expose] public section

noncomputable section

namespace Cert.A2A

open Idealize.ShloMosaic Idealize.SL.Sem Idealize.ShloMosaic.ValueIdx
open Cert.KernelIdeal Cert.KernelIdeal.Gen

/-- The pattern the maxima start from denotes minus infinity. -/
theorem ofBits_bot : Ideal.ofBits .f32 0xFF800000#32 = ⊥ := by simp [Ideal.ofBits, Ideal.ieee]

/-- A reshaped vector is bounded by what bounds the vector. -/
theorem cast_le {s t : Shape} (x : s.Idx → EReal) (h : s.ShapeCasts t) (b : EReal) :
    (∀ i, shapeCast t x h i ≤ b) ↔ ∀ i, x i ≤ b :=
  (Shape.reshapeEquiv h).forall_congr_left (p := fun i => x (Shape.reshapeEquiv h i) ≤ b) |>.trans
    (forall_congr' fun i => by rw [Equiv.apply_symm_apply])

/-- A maximum from minus infinity over every axis is bounded by what bounds its source. -/
theorem peak_le {s : Shape} {axes : List (Fin s.rank)} (src : FVec Ideal s .f32) (h : s.Reduces axes ⟨1, ![1]⟩)
    (hφ : FKind.Formats .f32) (hacc : (0xFF800000#32 : BitVec 32) = FKind.maximumf.neutral .f32 hφ)
    (j : (⟨1, ![1]⟩ : Shape).Idx) (b : EReal) :
    multiReduction .maximumf axes ⟨1, ![1]⟩ src 0xFF800000#32 h hφ hacc j ≤ b ↔ ∀ i, src i ≤ b := by
  rw [multiReduction_maximumf_eq_fold]
  have e : (Finset.univ.filter fun i => h.drop i = j) = Finset.univ :=
    Finset.filter_true_of_mem fun i _ => funext fun a => Fin.ext (by
      have h1 := (h.drop i a).isLt; have h2 := (j a).isLt
      match a with
      | ⟨0, _⟩ => change _ < 1 at h1; change _ < 1 at h2; omega)
  rw [e]
  refine (Finset.fold_max_le (β := EReal) (s := Finset.univ) (f := src) (b := Ideal.ofBits .f32 0xFF800000#32) b).trans ?_
  rw [ofBits_bot]
  exact ⟨fun h i => h.2 i (Finset.mem_univ i), fun h => ⟨bot_le, fun i _ => h i⟩⟩

/-- The same of the one element extracted, the source reshaped first. -/
theorem extract_le {s t : Shape} {axes : List (Fin t.rank)} (y : FVec Ideal s .f32) (hc : s.ShapeCasts t)
    (h : t.Reduces axes ⟨1, ![1]⟩) (hφ : FKind.Formats .f32) (hacc : (0xFF800000#32 : BitVec 32) = FKind.maximumf.neutral .f32 hφ)
    (hc' : (⟨1, ![1]⟩ : Shape).ShapeCasts ⟨3, ![1, 1, 1]⟩) (hp) (b : EReal) :
    extractAt (s := ⟨3, ![1, 1, 1]⟩) ![0, 0, 0] (shapeCast ⟨3, ![1, 1, 1]⟩ (multiReduction .maximumf axes ⟨1, ![1]⟩ (shapeCast t y hc) 0xFF800000#32 h hφ hacc) hc') hp
      ≤ b ↔ ∀ i, y i ≤ b :=
  (peak_le (shapeCast t y hc) h hφ hacc _ b).trans (cast_le y hc b)

/-- A scalar spread over a row and reshaped in place is that scalar at every entry. -/
theorem spread {α : Type} (e : α) (h : S1x128.ShapeCasts S1x128) (j : S1x128.Idx) : shapeCast S1x128 (broadcast S1x128 e) h j = e := rfl

/-- The maximum a device sends in the first exchange is bounded by what bounds its rectified product; -/
theorem pay34_le (y : FVec Ideal S128x2048 .f32) (j : S1x128.Idx) (b : EReal) : k0_pay34 (F := Ideal) y j ≤ b ↔ ∀ i, y i ≤ b := by
  unfold k0_pay34
  rw [spread]
  exact extract_le y shapeCasts_S128x2048_S1x128x2048 reduces_S1x128x2048_S1 (.inl rfl) rfl shapeCasts_S1_S1x1x1 inpos_S1x1x1_p0_0_0 b

/-- the one it sends in the second, by what bounds what it received in the first; -/
theorem pay35_le (y : FVec Ideal S8x128 .f32) (j : S1x128.Idx) (b : EReal) : k0_pay35 (F := Ideal) y j ≤ b ↔ ∀ i, y i ≤ b := by
  unfold k0_pay35
  rw [spread]
  exact extract_le y shapeCasts_S8x128_S1x8x128 reduces_S1x8x128_S1 (.inl rfl) rfl shapeCasts_S1_S1x1x1 inpos_S1x1x1_p0_0_0 b

/-- and the one it scales by, by what bounds what it received in the second. -/
theorem pay36_le (y : FVec Ideal S4x128 .f32) (b : EReal) : k0_pay36 (F := Ideal) y ≤ b ↔ ∀ i, y i ≤ b := by
  unfold k0_pay36
  exact extract_le y shapeCasts_S4x128_S1x4x128 reduces_S1x4x128_S1 (.inl rfl) rfl shapeCasts_S1_S1x1x1 inpos_S1x1x1_p0_0_0 b

/-- The plane of the device at a plane and a place is that plane. -/
theorem plane_devAt (z : Fin 4) (p : Fin 8) : plane (devAt z p) = z := by revert z p; decide

variable (X : Dev nD → S4096x128.Idx → EReal) (W : Dev nD → S4096x2048.Idx → EReal)

/-- **The maximum every device ends with is the least upper bound of the rectified products of all devices.** -/
theorem amax_le (c : Dev nD) (b : EReal) :
    k0_pay36 (F := Ideal) (am2 (F := Ideal) X W c) ≤ b ↔ ∀ d i, yAt (F := Ideal) X W d i ≤ b := by
  rw [pay36_le]
  have key : ∀ i, am2 (F := Ideal) X W c i ≤ b ↔ ∀ p : S8x128.Idx, ∀ k, yAt (F := Ideal) X W (devAt (i 0) (p 0)) k ≤ b := fun i => by
    refine (pay35_le _ _ b).trans (forall_congr' fun p => (pay34_le _ _ b).trans ?_)
    have e : plane (devAt (i 0) (pos c)) = i 0 := plane_devAt _ _
    rw [e]
  constructor
  · intro h d k
    have h1 := (key (ix2 (n0 := 4) (n1 := 128) (plane d) 0)).mp (h _) (ix2 (n0 := 8) (n1 := 128) (pos d) 0) k
    have e : devAt (plane d) (pos d) = d := devAt_self d
    exact e ▸ h1
  · exact fun h i => (key i).mpr fun p k => h _ _

end Cert.A2A

end
-- ==== Proof.Product.lean ====
/-
The accumulated product, over the extended reals: adding the devices' shares in the order they arrive gives the sum
over all devices, whatever the order.
-/
module

public import proofs.«01_k».proof.Proof.Exchange
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.A2A

open Idealize.ShloMosaic Idealize.SL.Sem Idealize.ShloMosaic.ValueIdx
open Cert.KernelIdeal Cert.KernelIdeal.Gen
open scoped BigOperators

/-- The kernel's products are plain ones: rows of the left operand by columns of the right. -/
theorem dot_plain : dot_S128x128_S128x2048_S128x2048_1_0_0_1_n_n = DotDims.plain 128 128 2048 := rfl

/-- The product into zero, read at an entry. -/
theorem product_apply (l : FVec Ideal S128x128 .f32) (r : FVec Ideal S128x2048 .f32) (i : Fin 128) (j : Fin 2048) :
    matmul dot_S128x128_S128x2048_S128x2048_1_0_0_1_n_n none l r (constant S128x2048 .f32 0x00000000#32) (ix2 i j)
      = ∑ k : Fin 128, l (ix2 i k) * r (ix2 k j) := by
  rw [dot_plain]
  refine (Ideal.matmul_plain_apply none l r _ i j).trans ?_
  show Ideal.ofBits .f32 0x00000000#32 + _ = _
  rw [Ideal.ofBits_zero_f32, zero_add]

/-- A device's own share, at an entry. -/
theorem pay2_apply (x : FVec Ideal S128x128 .f32) (w : FVec Ideal S128x2048 .f32) (i : Fin 128) (j : Fin 2048) :
    k0_pay2 x w (ix2 i j) = ∑ k : Fin 128, x (ix2 i k) * w (ix2 k j) := by
  unfold k0_pay2
  rw [shapeCast_self, shapeCast_self]
  exact product_apply x w i j

/-- A received share added, at an entry. -/
theorem pay3_apply (a : FVec Ideal S128x2048 .f32) (x : FVec Ideal S1x128x128 .f32) (w : FVec Ideal S128x2048 .f32)
    (i : Fin 128) (j : Fin 2048) :
    k0_pay3 a x w (ix2 i j) = a (ix2 i j) + ∑ k : Fin 128, x (ix3 (0 : Fin 1) i k) * w (ix2 k j) := by
  unfold k0_pay3
  rw [shapeCast_self]
  refine congrArg (a (ix2 i j) + ·) ((product_apply _ w i j).trans (Finset.sum_congr rfl fun k _ => ?_))
  exact congrArg (· * w (ix2 k j)) (shapeCast_1ab_ab_apply x _ i k)

/-- Adding term after term along a list adds the sum of the list. -/
theorem foldl_add_apply {ι α : Type} {g : ι → α → EReal} (step : (α → EReal) → ι → (α → EReal)) (p : α)
    (h : ∀ a r, step a r p = a p + g r p) (l : List ι) (a : α → EReal) :
    l.foldl step a p = a p + (l.map fun r => g r p).sum := by
  induction l generalizing a with
  | nil => simp
  | cons r l ih => rw [List.foldl_cons, ih, h, List.map_cons, List.sum_cons, add_assoc]

/-- A sum over all devices is one device's term and the terms of the devices it receives from. -/
theorem sum_dev (c : Dev nD) (g : Dev nD → EReal) : ∑ s : Dev nD, g s = g c + (steps31.map fun r => g (orig (.inl r) c)).sum := by
  have e : (steps31.map fun r => g (orig (.inl r) c)).sum = ∑ r : Fin 31, g (orig (.inl r) c) := by
    rw [← List.sum_toFinset _ steps31_nodup, steps31_univ]
  rw [e, ← Finset.add_sum_erase Finset.univ g (Finset.mem_univ c)]
  congr 1
  symm
  refine Finset.sum_bij' (fun r _ => orig (.inl r) c)
    (fun s hs => (⟨gap s c, gap_lt (Finset.ne_of_mem_erase hs)⟩ : Fin 31)) ?_ ?_ ?_ ?_ ?_
  · exact fun r _ => Finset.mem_erase.mpr ⟨orig_ne _ _, Finset.mem_univ _⟩
  · exact fun _ _ => Finset.mem_univ _
  · exact fun r _ => ((to31_eq_iff r (orig (.inl r) c) c (orig_ne _ _)).mp (Equiv.apply_symm_apply (to31 r) c)).symm
  · exact fun s hs => by
      rw [Equiv.symm_apply_eq]
      exact ((to31_eq_iff _ s c (Finset.ne_of_mem_erase hs)).mpr rfl).symm
  · exact fun _ _ => rfl

variable (X : Dev nD → S4096x128.Idx → EReal) (W : Dev nD → S4096x2048.Idx → EReal)

/-- The share of device `s` in the product of device `c`, at an entry. -/
def share (c s : Dev nD) (i : Fin 128) (j : Fin 2048) : EReal :=
  ∑ k : Fin 128, xBlk (F := Ideal) (X s) c (ix2 i k) * wBlk (F := Ideal) (W c) s (ix2 k j)

/-- **The accumulated product of a device is the sum of the shares of all devices.** -/
theorem acc_apply (c : Dev nD) (i : Fin 128) (j : Fin 2048) :
    acc (F := Ideal) X W c (ix2 i j) = ∑ s : Dev nD, share X W c s i j := by
  rw [sum_dev c]
  unfold acc
  refine (foldl_add_apply (g := fun r p => share X W c (orig (.inl r) c) (p 0) (p 1)) (accStep (F := Ideal) X W c) (ix2 i j)
    (fun a r => ?_) steps31 _).trans ?_
  · exact pay3_apply a _ _ i j
  · exact congrArg (· + _) (pay2_apply _ _ i j)

end Cert.A2A

end
-- ==== Proof.Arrays.lean ====
/-
From the arrays to the values: each window of the kernel's one point is its whole array, so what a device starts from
is its arguments and what it leaves is the body's result.
-/
module

public import proofs.«01_k».proof.Proof.Frames
public import proofs.«01_k».proof.Proof.Maxima
public import proofs.«01_k».proof.Proof.Product

@[expose] public section

noncomputable section

namespace Cert.A2A

open Idealize.ShloMosaic Idealize.ShloMosaic.TcCoe Idealize.SL.Sem Idealize.ShloMosaic.ValueIdx
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- What a device starts from is its block of `x`, -/
theorem Xs_eq (c : Dev nD) : Xs (F := F) m ρ c = m ((c : Thread nD τ).loc main_arg0) :=
  funext fun i => congrArg (m ((c : Thread nD τ).loc main_arg0)) (funext fun a => Fin.ext (by
    match a with
    | ⟨0, _⟩ => show 0 * 4096 + 1 * (i 0).val = (i 0).val; omega
    | ⟨1, _⟩ => show 0 * 128 + 1 * (i 1).val = (i 1).val; omega))

/-- and its copy of the weights. -/
theorem Ws_eq (c : Dev nD) : Ws (F := F) m ρ c = m ((c : Thread nD τ).loc main_arg1) :=
  funext fun i => congrArg (m ((c : Thread nD τ).loc main_arg1)) (funext fun a => Fin.ext (by
    match a with
    | ⟨0, _⟩ => show 0 * 4096 + 1 * (i 0).val = (i 0).val; omega
    | ⟨1, _⟩ => show 0 * 2048 + 1 * (i 1).val = (i 1).val; omega))

/-- The result's window places every entry at itself. -/
theorem emb_out (t : Fin cfg0.N) (i : S128x2048.Idx) : ((cfg0.win (2 : Fin 3)).blk t).view.emb i = i :=
  funext fun a => Fin.ext (by
    match a with
    | ⟨0, _⟩ => show 0 * 128 + 1 * (i 0).val = (i 0).val; omega
    | ⟨1, _⟩ => show 0 * 2048 + 1 * (i 1).val = (i 1).val; omega)

/-- The result's array after the run is the body's result. -/
theorem out_eq (c : Dev nD) : (dats (F := F) m ρ 0 c).arrAt (2 : Fin 3) cfg0.N = outV (Xs m ρ) (Ws m ρ) c :=
  (dats m ρ 0 c).arrAt_eq_of_cover (2 : Fin 3) (outV (Xs m ρ) (Ws m ρ) c)
    (fun t _ => funext fun i => (congrArg (outV (Xs m ρ) (Ws m ρ) c) (emb_out t i)).symm)
    (fun i => ⟨t0_0, rfl, by have h := ((cfg0.win (2 : Fin 3)).blk t0_0).view.emb_mem_set i; rwa [emb_out] at h⟩)

/-- After the run a device's result is the body's, of the arguments as launched. -/
theorem end_out {r : PUnit × MemSt nD τ sig (Elt F)} (h : QC m ρ r) (c : Dev nD) :
    r.2.mem ((c : Thread nD τ).loc main_v1)
      = outV (fun d : Dev nD => m ((d : Thread nD τ).loc main_arg0)) (fun d : Dev nD => m ((d : Thread nD τ).loc main_arg1)) c := by
  have e0 : Xs (F := F) m ρ = fun d : Dev nD => m ((d : Thread nD τ).loc main_arg0) := funext (Xs_eq m ρ)
  have e1 : Ws (F := F) m ρ = fun d : Dev nD => m ((d : Thread nD τ).loc main_arg1) := funext (Ws_eq m ρ)
  rw [← e0, ← e1]
  exact (h c (2 : Fin 3)).trans (out_eq m ρ c)

end Cert.A2A

end
-- ==== Proof.Whole.lean ====
/-
What the reference computes, over the extended reals: the whole product rectified, its maximum, and every entry scaled,
clamped and scaled back.
-/
module

public import proofs.«01_k».proof.Proof.Maxima
public import proofs.«01_k».proof.Proof.Gen.ReferenceIdeal.Value
public import Idealize.ShloMosaic.Lib.StackMember
public import Idealize.ShloMosaic.Lib.StableHlo.Run

@[expose] public section

noncomputable section

namespace Cert.A2A.Whole

open Idealize.ShloMosaic Idealize.ShloMosaic.TcCoe Idealize.SL.Sem Idealize.ShloMosaic.ValueIdx
open Cert.ReferenceIdeal Cert.ReferenceIdeal.Gen
open scoped BigOperators

/-- An entry `y` scaled by the maximum `g`, clamped, and scaled back: the casts to the short format and back change
    nothing over the extended reals. -/
def snap (g y : EReal) : EReal :=
  min (Ideal.div y (Ideal.div g (Ideal.ofBits .f32 0x43E00000#32))) (Ideal.ofBits .f32 0x43E00000#32)
    * Ideal.div g (Ideal.ofBits .f32 0x43E00000#32)

/-- The rectified array. -/
def rect (V : S4096x2048.Idx → EReal) : S4096x2048.Idx → EReal := fun i => max (V i) (Ideal.ofBits .f32 0x00000000#32)

/-- The maximum of the rectified array's magnitudes. -/
def top (V : S4096x2048.Idx → EReal) : EReal :=
  extractAt (s := S1x1x1) ![0, 0, 0] (shapeCast S1x1x1 (multiReduction .maximumf [1, 2] S1
    (shapeCast S1x4096x2048 (absf (F := Ideal) (φ := .f32) (rect V)) shapeCasts_S4096x2048_S1x4096x2048) 0xFF800000#32
    reduces_S1x4096x2048_S1 (.inl rfl) rfl) shapeCasts_S1_S1x1x1) inpos_S1x1x1_p0_0_0

/-- The maximum is the least upper bound of the rectified array, whose magnitudes are its entries. -/
theorem top_le (V : S4096x2048.Idx → EReal) (b : EReal) : top V ≤ b ↔ ∀ i, rect V i ≤ b := by
  refine (extract_le (s := S4096x2048) (t := S1x4096x2048) (absf (F := Ideal) (φ := .f32) (rect V)) shapeCasts_S4096x2048_S1x4096x2048
    reduces_S1x4096x2048_S1 (.inl rfl) rfl shapeCasts_S1_S1x1x1 inpos_S1x1x1_p0_0_0 b).trans (forall_congr' fun i => ?_)
  have h0 : (0 : EReal) ≤ rect V i := by unfold rect; rw [Ideal.ofBits_zero_f32]; exact le_max_right _ _
  have e : absf (F := Ideal) (φ := .f32) (rect V) i = max (rect V i) (-rect V i) := rfl
  have hn : -rect V i ≤ rect V i := le_trans (by simpa using EReal.neg_le_neg_iff.mpr h0) h0
  rw [e, max_eq_left hn]

/-- What the body stores, entry by entry. -/
theorem pay1_apply (V : S4096x2048.Idx → EReal) (i : S4096x2048.Idx) : k0_pay1 (F := Ideal) V i = snap (top V) (rect V i) := by
  unfold k0_pay1
  rw [shapeCast_self]
  rfl

/-- The whole product. -/
def prod (x : S4096x4096.Idx → EReal) (w : S4096x2048.Idx → EReal) : S4096x2048.Idx → EReal :=
  fun i => ∑ k : Fin 4096, x (ix2 (n0 := 4096) (n1 := 4096) (i 0) k) * w (ix2 (n0 := 4096) (n1 := 2048) k (i 1))

/-- The host's product is the whole product. -/
theorem dot_eq (x : FVec Ideal S4096x4096 .f32) (w : FVec Ideal S4096x2048 .f32) :
    Host.dotGeneral dot_S4096x4096_S4096x2048_S4096x2048_1_0_0_1_n_n none x w = prod x w := by
  funext i
  obtain ⟨a, b, rfl⟩ : ∃ (a : Fin 4096) (b : Fin 2048), i = ix2 a b := ⟨i 0, i 1, eq_ix2 i⟩
  exact StackMember.dotGeneral_plain_apply (m := 4096) (k := 4096) (n := 2048) none x w a b

variable (m : (ℓ : Loc nD τ sig) → Buf (Elt Ideal) ℓ) (ρ : Dev nD → PrngReg)

/-- The region finds the product where the host left it. -/
theorem V_prod (c : Dev nD) : V (F := Ideal) m c main_v0 = prod (m ((c : Thread nD τ).loc main_arg0)) (m ((c : Thread nD τ).loc main_arg1)) := by
  refine Eq.trans ?_ (dot_eq _ _)
  unfold V hostOps0
  after_results

/-- The region's one point. -/
def pt : Fin cfg0.N := ⟨0, by decide⟩

/-- The region's input window is its whole array, -/
theorem iblk_eq (c : Dev nD) (t : Fin cfg0.N) : iblk (F := Ideal) m c 0 t = V (F := Ideal) m c main_v0 :=
  funext fun i => congrArg (V (F := Ideal) m c main_v0) (funext fun a => Fin.ext (by
    match a with
    | ⟨0, _⟩ => show 0 * 4096 + 1 * (i 0).val = (i 0).val; omega
    | ⟨1, _⟩ => show 0 * 2048 + 1 * (i 1).val = (i 1).val; omega))

/-- and its result's window places every entry at itself. -/
theorem emb_out (t : Fin cfg0.N) (i : S4096x2048.Idx) : ((cfg0.win 1).blk t).view.emb i = i :=
  funext fun a => Fin.ext (by
    match a with
    | ⟨0, _⟩ => show 0 * 4096 + 1 * (i 0).val = (i 0).val; omega
    | ⟨1, _⟩ => show 0 * 2048 + 1 * (i 1).val = (i 1).val; omega)

/-- The reference's result, of the inputs. -/
def result (x : S4096x4096.Idx → EReal) (w : S4096x2048.Idx → EReal) : S4096x2048.Idx → EReal :=
  fun i => snap (top (prod x w)) (rect (prod x w) i)

/-- What the body leaves of its input. -/
theorem out_apply (V : S4096x2048.Idx → EReal) : out0_1 (F := Ideal) V = fun i => snap (top V) (rect V i) := by
  unfold out0_1
  have hz : (![0, 0] : Fin 2 → Nat) = fun _ => 0 := by funext a; fin_cases a <;> rfl
  rw [View.canon_unit_zero (S := S4096x2048) hz, View.ld_unit_zero (S := S4096x2048) hz]
  exact funext (pay1_apply V)

/-- The result's array after the run is the reference's result. -/
theorem out_eq (c : Dev nD) : (dats (F := Ideal) m 0 c).arrAt 1 cfg0.N
    = result (m ((c : Thread nD τ).loc main_arg0)) (m ((c : Thread nD τ).loc main_arg1)) :=
  (dats m 0 c).arrAt_eq_of_cover 1 (result (m ((c : Thread nD τ).loc main_arg0)) (m ((c : Thread nD τ).loc main_arg1)))
    (fun t _ => by
      rw [Value.flushed1, iblk_eq, V_prod, out_apply]
      exact funext fun i => (congrArg (result (m ((c : Thread nD τ).loc main_arg0)) (m ((c : Thread nD τ).loc main_arg1))) (emb_out t i)).symm)
    (fun i => ⟨pt, flush0_1 _, by have h := ((cfg0.win 1).blk pt).view.emb_mem_set i; rwa [emb_out] at h⟩)

end Cert.A2A.Whole

end
-- ==== Proof.Algebraic.lean ====
/-
The two programs agree over the extended reals: every device's result is its block of rows of the reference's.
-/
module

public import proofs.«01_k».proof.Proof.Arrays
public import proofs.«01_k».proof.Proof.Whole
public import proofs.«01_k».proof.Defs
public import Idealize.ShloMosaic.Lib.Layout

@[expose] public section

noncomputable section

namespace Cert.A2A

open Idealize.ShloMosaic Idealize.ShloMosaic.TcCoe Idealize.SL.Sem Idealize.ShloMosaic.ValueIdx
open Cert.KernelIdeal Cert.KernelIdeal.Gen
open scoped BigOperators

/-- A place among 128 in the part of device `s`, among 4096. -/
def place (s : Dev nD) (k : Fin 128) : Fin 4096 := ⟨s.val * 128 + k.val, by have := s.isLt; simp only [nD] at *; omega⟩

/-- Every place is in some device's part. -/
theorem place_surj (a : Fin 4096) : ∃ (s : Dev nD) (k : Fin 128), place s k = a :=
  ⟨⟨a.val / 128, by simp only [nD]; omega⟩, ⟨a.val % 128, Nat.mod_lt _ (by decide)⟩, Fin.ext (Nat.div_add_mod' a.val 128)⟩

/-- A sum over all places is the sum of the devices' parts. -/
theorem sum_place (g : Fin 4096 → EReal) : ∑ a, g a = ∑ s : Dev nD, ∑ k : Fin 128, g (place s k) := by
  rw [← Fintype.sum_prod_type' (fun (s : Dev nD) (k : Fin 128) => g (place s k))]
  refine (Fintype.sum_bijective (fun p : Dev nD × Fin 128 => place p.1 p.2) ⟨?_, ?_⟩ _ _ fun _ => rfl).symm
  · rintro ⟨s, k⟩ ⟨s', k'⟩ h
    have h := congrArg Fin.val h
    simp only [place] at h
    exact Prod.ext (Fin.ext (by dsimp only; omega)) (Fin.ext (by dsimp only; omega))
  · intro a
    obtain ⟨s, k, h⟩ := place_surj a
    exact ⟨(s, k), h⟩

section Values

variable (x : (⟨2, ![4096, 4096]⟩ : Shape).Idx → EReal) (w : (⟨2, ![4096, 2048]⟩ : Shape).Idx → EReal)

/-- What the devices start from: device `d` a block of columns of `x`, -/
abbrev cut (d : Dev nD) : S4096x128.Idx → EReal := Layout.block ⟨2, ![4096, 128]⟩ ⟨2, ![4096, 4096]⟩ 1 32 d x

/-- whose column `k` is the column of `x` at that place of its part. -/
theorem cut_apply (d : Dev nD) (a : Fin 4096) (k : Fin 128) : cut x d (ix2 (n0 := 4096) (n1 := 128) a k) = x (ix2 a (place d k)) :=
  congrArg x (funext fun b => Fin.ext (by
    match b with
    | ⟨0, _⟩ => rfl
    | ⟨1, _⟩ => rfl))

/-- The accumulated product of a device is its rows of the whole product. -/
theorem acc_eq (c : Dev nD) (i : Fin 128) (j : Fin 2048) :
    acc (F := Ideal) (cut x) (fun _ => w) c (ix2 i j) = Whole.prod x w (ix2 (n0 := 4096) (n1 := 2048) (place c i) j) := by
  rw [acc_apply]
  unfold Whole.prod
  rw [sum_place]
  refine Finset.sum_congr rfl fun s _ => Finset.sum_congr rfl fun k _ => ?_
  exact congrArg₂ (· * ·) (cut_apply x s (place c i) k) rfl

/-- The rectified product of a device is its rows of the whole one. -/
theorem yAt_eq (c : Dev nD) (i : Fin 128) (j : Fin 2048) :
    yAt (F := Ideal) (cut x) (fun _ => w) c (ix2 i j) = Whole.rect (Whole.prod x w) (ix2 (n0 := 4096) (n1 := 2048) (place c i) j) :=
  congrArg (fun y : EReal => max y (Ideal.ofBits .f32 0x00000000#32)) (acc_eq x w c i j)

/-- The maximum every device ends with is the maximum of the whole. -/
theorem amax_eq (c : Dev nD) : k0_pay36 (F := Ideal) (am2 (F := Ideal) (cut x) (fun _ => w) c) = Whole.top (Whole.prod x w) := by
  refine eq_of_forall_ge_iff fun b => (amax_le _ _ c b).trans (Iff.trans ?_ (Whole.top_le _ b).symm)
  constructor
  · intro h p
    obtain ⟨d, i, e⟩ := place_surj (p 0)
    have h1 := (yAt_eq x w d i (p 1)).symm.trans_le (h d _)
    rw [e] at h1
    rw [eq_ix2 p]
    exact h1
  · intro h d p
    rw [eq_ix2 p]
    exact (yAt_eq x w d (p 0) (p 1)).trans_le (h _)

/-- **The result of a device is its block of rows of the reference's result.** -/
theorem outV_eq (c : Dev nD) : outV (F := Ideal) (cut x) (fun _ => w) c
    = Layout.block ⟨2, ![128, 2048]⟩ ⟨2, ![4096, 2048]⟩ 0 32 c (Whole.result x w) := by
  funext p
  obtain ⟨i, j, rfl⟩ : ∃ (i : Fin 128) (j : Fin 2048), p = ix2 i j := ⟨p 0, p 1, eq_ix2 p⟩
  have hl : outV (F := Ideal) (cut x) (fun _ => w) c (ix2 i j)
      = Whole.snap (k0_pay36 (F := Ideal) (am2 (F := Ideal) (cut x) (fun _ => w) c)) (yAt (F := Ideal) (cut x) (fun _ => w) c (ix2 i j)) := rfl
  have hr : (Layout.block ⟨2, ![128, 2048]⟩ ⟨2, ![4096, 2048]⟩ 0 32 c (Whole.result x w) : S128x2048.Idx → EReal) (ix2 i j)
      = Whole.result x w (ix2 (n0 := 4096) (n1 := 2048) (place c i) j) :=
    congrArg (Whole.result x w) (funext fun b => Fin.ext (by
      match b with
      | ⟨0, _⟩ => rfl
      | ⟨1, _⟩ => rfl))
  rw [hl, hr, amax_eq, yAt_eq]
  rfl

end Values

/-- Launched on matching inputs the kernel leaves on every device its rows of what the reference leaves. -/
theorem algebraic : Cert.algebraic_KernelIdeal_ReferenceIdeal := fun m g m' g' _ hin => by
  refine ⟨Whole.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨?_, end_x m g h.1 c, end_w m g h.1 c⟩) (run_main (F := Ideal) m g)
    refine (end_out m g h.1 c).trans (Eq.trans ?_ (outV_eq _ _ c))
    exact congrArg₂ (fun X W => outV (F := Ideal) X W c) (funext fun d => (hin d).1) (funext fun d => (hin d).2)
  · exact (θ_run Cert.ReferenceIdeal.defs _ _).mono (fun r h => ⟨(h 0).1.trans (Whole.out_eq m' 0), (h 0).2.1, (h 0).2.2⟩)
      (Cert.ReferenceIdeal.Value.run_blocks (F := Ideal) m' g')

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Algebraic
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

/-- The kernel's program and its idealization are the same text. -/
theorem defs_same : Cert.Kernel.defs (F := Bits) = Cert.KernelIdeal.defs (F := Bits) := by chain_rfl

/-- The frame of the kernel's program. -/
theorem frame_kernel : Cert.quiescent_Kernel := fun m ρ _ => by
  rw [defs_same]
  exact Cert.A2A.frame (F := Bits) m ρ

/-- The frame of its idealization. -/
theorem frame_ideal : Cert.quiescent_KernelIdeal := fun m ρ _ => Cert.A2A.frame (F := Ideal) m ρ

/-- The frame of the reference. -/
theorem frame_reference : Cert.quiescent_ReferenceIdeal := fun m ρ _ => Cert.ReferenceIdeal.Gen.frame m ρ

/-- The two idealized programs agree. -/
theorem algebraic : Cert.algebraic_KernelIdeal_ReferenceIdeal := Cert.A2A.algebraic

/-- The claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
